-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x64x8x32x32 : Shape := ⟨5, ![4, 64, 8, 32, 32]⟩
abbrev S1024x64 : Shape := ⟨2, ![1024, 64]⟩
abbrev S_ : Shape := ⟨0, ![]⟩

class Facts : Prop where
  bcast_S_S4x64x8x32x32 : S_.BroadcastsInDim S4x64x8x32x32 (![] : Fin 0 → Fin S4x64x8x32x32.rank)
  bcast_S_S1024x64 : S_.BroadcastsInDim S1024x64 (![] : Fin 0 → Fin S1024x64.rank)

variable [Facts]

def fn {F : FTy → Type} [FloatOps F] (main_arg0 : FVec F S4x64x8x32x32 .f32) (main_arg1 : FVec F S1024x64 .f32) : IVec S4x64x8x32x32 1 × IVec S1024x64 1 :=
  let main_v0 : FVec F S4x64x8x32x32 .f32 := Host.absf main_arg0
  let main_cst : FVec F S_ .f32 := constant S_ .f32 0x7F800000#32
  let main_v1 : FVec F S4x64x8x32x32 .f32 := broadcastInDim S4x64x8x32x32 ![] bcast_S_S4x64x8x32x32 main_cst
  let main_v2 : IVec S4x64x8x32x32 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  (main_v2, main_v5)
-- ==== Kernel.lean ====
abbrev S4x64x8x32x32 : Shape := ⟨5, ![4, 64, 8, 32, 32]⟩
abbrev S1024x64 : Shape := ⟨2, ![1024, 64]⟩
abbrev S4x64x8192 : Shape := ⟨3, ![4, 64, 8192]⟩
abbrev S_ : Shape := ⟨0, ![]⟩
abbrev S4x8192 : Shape := ⟨2, ![4, 8192]⟩
abbrev S16x1x2048 : Shape := ⟨3, ![16, 1, 2048]⟩
abbrev S1024 : Shape := ⟨1, ![1024]⟩
abbrev S1024x1 : Shape := ⟨2, ![1024, 1]⟩
abbrev S1x1 : Shape := ⟨2, ![1, 1]⟩
abbrev S1x64x2048 : Shape := ⟨3, ![1, 64, 2048]⟩
abbrev S1x1x2048 : Shape := ⟨3, ![1, 1, 2048]⟩
abbrev S64x2048 : Shape := ⟨2, ![64, 2048]⟩
abbrev S1024x2048 : Shape := ⟨2, ![1024, 2048]⟩
abbrev S1x2048 : Shape := ⟨2, ![1, 2048]⟩
abbrev S2048 : Shape := ⟨1, ![2048]⟩
abbrev S1 : Shape := ⟨1, ![1]⟩
abbrev S1x1024x1 : Shape := ⟨3, ![1, 1024, 1]⟩
abbrev S1x1x1 : Shape := ⟨3, ![1, 1, 1]⟩

abbrev nBuf : Space → Nat
  | .hbm => 17
  | .vmem => 10
  | .smem => 3
  | _ => 0

abbrev bufTy : (tb : Table) → Fin (tcTables nBuf tb) → BufTy
  | .hbm, ⟨0, _⟩ => ⟨S4x64x8x32x32, .f32⟩
  | .hbm, ⟨1, _⟩ => ⟨S1024x64, .f32⟩
  | .hbm, ⟨2, _⟩ => ⟨S4x64x8192, .f32⟩
  | .hbm, ⟨3, _⟩ => ⟨S4x64x8192, .f32⟩
  | .hbm, ⟨4, _⟩ => ⟨S_, .f32⟩
  | .hbm, ⟨5, _⟩ => ⟨S4x8192, .f32⟩
  | .hbm, ⟨6, _⟩ => ⟨S16x1x2048, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x64, .f32⟩
  | .hbm, ⟨13, _⟩ => ⟨S1024x64, .f32⟩
  | .hbm, ⟨14, _⟩ => ⟨S4x64x8192, .f32⟩
  | .hbm, ⟨15, _⟩ => ⟨S1x1, .f32⟩
  | .hbm, ⟨16, _⟩ => ⟨S1x1, .i32⟩
  | .local _ .vmem, ⟨0, _⟩ => ⟨S1x64x2048, .f32⟩
  | .local _ .vmem, ⟨1, _⟩ => ⟨S1x64x2048, .f32⟩
  | .local _ .vmem, ⟨2, _⟩ => ⟨S1024x64, .f32⟩
  | .local _ .vmem, ⟨3, _⟩ => ⟨S1024x64, .f32⟩
  | .local _ .vmem, ⟨4, _⟩ => ⟨S1x1x2048, .f32⟩
  | .local _ .vmem, ⟨5, _⟩ => ⟨S1x1x2048, .f32⟩
  | .local _ .vmem, ⟨6, _⟩ => ⟨S1024x1, .f32⟩
  | .local _ .vmem, ⟨7, _⟩ => ⟨S1x64x2048, .f32⟩
  | .local _ .vmem, ⟨8, _⟩ => ⟨S1x64x2048, .f32⟩
  | .local _ .vmem, ⟨9, _⟩ => ⟨S1024x1, .f32⟩
  | .local _ .smem, ⟨0, _⟩ => ⟨S1x1, .f32⟩
  | .local _ .smem, ⟨1, _⟩ => ⟨S1x1, .i32⟩
  | .local _ .smem, ⟨2, _⟩ => ⟨S1x1, .f32⟩
  | _, _ => ⟨S4x64x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst_0 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg6_0 : Ref sig .tc := ⟨.smem, 0, rfl⟩
abbrev cc0_stg7_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v51 : BitVec 1 := Scalar.cmpi .eq arg0 c15_i32
  let v52 : BitVec 32 := Scalar.extui v51
  let c0_i32_28 : BitVec 32 := 0#32
  let v53 : BitVec 1 := Scalar.cmpi .ne v52 c0_i32_28
  v53

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x64x8x32x32 : Shape := ⟨5, ![4, 64, 8, 32, 32]⟩
abbrev S1024x64 : Shape := ⟨2, ![1024, 64]⟩
abbrev S4x8x32x32x64 : Shape := ⟨5, ![4, 8, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S4x64x8192 : Shape := ⟨3, ![4, 64, 8192]⟩

abbrev nBuf : Space → Nat
  | .hbm => 94
  | .vmem => 0
  | .smem => 0
  | _ => 0

abbrev bufTy : (tb : Table) → Fin (tcTables nBuf tb) → BufTy
  | .hbm, ⟨0, _⟩ => ⟨S4x64x8x32x32, .f32⟩
  | .hbm, ⟨1, _⟩ => ⟨S1024x64, .f32⟩
  | .hbm, ⟨2, _⟩ => ⟨S4x8x32x32x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x64, .f32⟩
  | .hbm, ⟨10, _⟩ => ⟨S32768x64, .f32⟩
  | .hbm, ⟨11, _⟩ => ⟨S64x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S_, .i32⟩
  | .hbm, ⟨41, _⟩ => ⟨S32768, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S1, .i32⟩
  | .hbm, ⟨58, _⟩ => ⟨S_, .i32⟩
  | .hbm, ⟨59, _⟩ => ⟨S32768x1, .i32⟩
  | .hbm, ⟨60, _⟩ => ⟨S32768x1, .i1⟩
  | .hbm, ⟨61, _⟩ => ⟨S1x1, .i32⟩
  | .hbm, ⟨62, _⟩ => ⟨S32768x1, .i32⟩
  | .hbm, ⟨63, _⟩ => ⟨S32768x1, .i1⟩
  | .hbm, ⟨64, _⟩ => ⟨S32768x1, .i1⟩
  | .hbm, ⟨65, _⟩ => ⟨S_, .i1⟩
  | .hbm, ⟨66, _⟩ => ⟨S32768, .i1⟩
  | .hbm, ⟨67, _⟩ => ⟨S32768x64, .f32⟩
  | .hbm, ⟨68, _⟩ => ⟨S32768x64, .i1⟩
  | .hbm, ⟨69, _⟩ => ⟨S_, .f32⟩
  | .hbm, ⟨70, _⟩ => ⟨S32768x64, .f32⟩
  | .hbm, ⟨71, _⟩ => ⟨S32768x64, .f32⟩
  | .hbm, ⟨72, _⟩ => ⟨S4x8x32x32x64, .f32⟩
  | .hbm, ⟨73, _⟩ => ⟨S4x8x32x32x64, .f32⟩
  | .hbm, ⟨74, _⟩ => ⟨S4x8x32x32x64, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4x8x32x32x64, .f32⟩
  | .hbm, ⟨80, _⟩ => ⟨S4x8x32x32x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4x8x32x32x64, .f32⟩
  | .hbm, ⟨89, _⟩ => ⟨S4x8x32x32x64, .f32⟩
  | .hbm, ⟨90, _⟩ => ⟨S4x64x8x32x32, .f32⟩
  | .hbm, ⟨91, _⟩ => ⟨S4x64x8192, .f32⟩
  | .hbm, ⟨92, _⟩ => ⟨S1x1, .f32⟩
  | .hbm, ⟨93, _⟩ => ⟨S1x1, .i32⟩
  | _, _ => ⟨S4x64x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_8 : Ref sig .tc := ⟨.hbm, 75, rfl⟩
abbrev main_v35 : Ref sig .tc := ⟨.hbm, 76, rfl⟩
abbrev main_cst_9 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_10 : Ref sig .tc := ⟨.hbm, 81, rfl⟩
abbrev main_v39 : Ref sig .tc := ⟨.hbm, 82, rfl⟩
abbrev main_cst_11 : Ref sig .tc := ⟨.hbm, 83, rfl⟩
abbrev main_v40 : Ref sig .tc := ⟨.hbm, 84, rfl⟩
abbrev main_cst_12 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩

abbrev nD : Nat := 1
abbrev τ : Topo := Topo.v7x

variable {F : FTy → Type} [FloatOps F]
-- ==== Proof.RefLine.lean ====
/-
  The reference as a line of host operations: `@main`'s operations in order, its called functions' operations in place of
  the calls, cut into five stretches, and the run of that line. Every final state holds in each buffer what the
  operations leave there from the launch contents (`run_ops`).
-/
module

public import Idealize.ShloMosaic.Lib.StableHlo.Run
public import Idealize.ShloMosaic.Lib.Pipeline.Frame
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations up to the array of all the distances. -/
abbrev opsDist : List (HloOp τ sig (Elt F)) :=
  [ unary main_arg0 main_v0 (transpose S4x8x32x32x64 [0, 2, 3, 4, 1] · transposes_S4x64x8x32x32_S4x8x32x32x64_0_2_3_4_1),
    reshape main_v0 main_v1 (rfl : (.f32 : EltTy) = .f32) shapeCasts_S4x8x32x32x64_S32768x64,
    binary main_v1 main_v1 main_v2 mulf,
    nullary main_cst (constant S_ .f32 0x00000000#32),
    binary main_v2 main_cst main_v3 (fun x v => Host.reduceAdd x v reducesTo_S32768x64_S32768_d1 h_S_),
    unary main_v3 main_v4 (broadcastInDim S32768x1 ![0] bcast_S32768_S32768x1_0),
    nullary main_cst_0 (constant S_ .f32 0x40000000#32),
    unary main_cst_0 main_v5 (broadcastInDim S32768x64 ![] bcast_S_S32768x64),
    binary main_v5 main_v1 main_v6 mulf,
    unary main_arg1 main_v7 (transpose S64x1024 [1, 0] · transposes_S1024x64_S64x1024_1_0),
    binary main_v6 main_v7 main_v8 (fun l r => Host.dotGeneral dot_S32768x64_S64x1024_S32768x1024_1_0_0_1_n_n none l r),
    unary main_v4 main_v9 (broadcastInDim S32768x1024 ![0, 1] bcast_S32768x1_S32768x1024_0_1),
    binary main_v9 main_v8 main_v10 subf,
    binary main_arg1 main_arg1 main_v11 mulf,
    nullary main_cst_1 (constant S_ .f32 0x00000000#32),
    binary main_v11 main_cst_1 main_v12 (fun x v => Host.reduceAdd x v reducesTo_S1024x64_S1024_d1 h_S_),
    unary main_v12 main_v13 (broadcastInDim S1x1024 ![1] bcast_S1024_S1x1024_1),
    unary main_v13 main_v14 (broadcastInDim S32768x1024 ![0, 1] bcast_S1x1024_S32768x1024_0_1),
    binary main_v10 main_v14 main_v15 addf ]

/-- The operations of the argmin. -/
abbrev opsCode : List (HloOp τ sig (Elt F)) :=
  [ nullary main_call0_v0 (iotaInDim S32768x1024 32 1),
    nullary main_call0_cst (constant S_ .f32 0x7F800000#32),
    nullary main_call0_c (constantI S_ 32 0#32),
    quaternary main_v15 main_call0_v0 main_call0_cst main_call0_c main_call0_v1_0 (fun x y u v j => (Host.argReduce reducer_argmin_f32_i32 x y u v reducesTo_S32768x1024_S32768_d1 h_S_ j).1),
    quaternary main_v15 main_call0_v0 main_call0_cst main_call0_c main_v16 (fun x y u v j => (Host.argReduce reducer_argmin_f32_i32 x y u v reducesTo_S32768x1024_S32768_d1 h_S_ j).2) ]

/-- The operations that count the codes used. -/
abbrev opsCount : List (HloOp τ sig (Elt F)) :=
  [ nullary main_c (constantI S_ 32 0#32),
    unary main_c main_v17 (broadcastInDim S1024 ![] bcast_S_S1024),
    nullary main_c_2 (constantI S_ 32 0#32),
    unary main_c_2 main_call1_v0 id,
    unary main_call1_v0 main_call1_v1 (broadcastInDim S32768 ![] bcast_S_S32768),
    binary main_call1_v1 main_v16 main_v18 maxsi,
    nullary main_c_3 (constantI S_ 32 0#32),
    unary main_c_3 main_v19 (broadcastInDim S32768 ![] bcast_S_S32768),
    binary main_v18 main_v19 main_v20 (cmpi .slt),
    nullary main_c_4 (constantI S_ 32 1024#32),
    unary main_c_4 main_v21 (broadcastInDim S32768 ![] bcast_S_S32768),
    binary main_v18 main_v21 main_v22 addi,
    ternary main_v20 main_v22 main_v18 main_v23 select,
    unary main_v23 main_v24 (broadcastInDim S32768x1 ![0] bcast_S32768_S32768x1_0),
    nullary main_c_5 (constantI S_ 32 1#32),
    unary main_c_5 main_v25 (broadcastInDim S32768 ![] bcast_S_S32768),
    ternary main_v17 main_v24 main_v25 main_v26 (fun x i u => Host.scatter scatter_S1024_S32768x1_S32768_n_0_0_1 IntOp.addi x i u),
    nullary main_c_6 (constantI S_ 32 0#32),
    unary main_c_6 main_v27 (broadcastInDim S1024 ![] bcast_S_S1024),
    binary main_v26 main_v27 main_v28 (cmpi .sgt),
    unary main_v28 main_v29 (extui 32 · natLt_1_32),
    nullary main_c_7 (constantI S_ 32 0#32),
    binary main_v29 main_c_7 main_v30 (fun x v => Host.reduce IntOp.addi x v reducesTo_S1024_S_d0 h_S_) ]

/-- The operations that look the chosen codes up. -/
abbrev opsTake : List (HloOp τ sig (Elt F)) :=
  [ nullary main_call2_c (constantI S_ 32 0#32),
    unary main_call2_c main_call2_v0 (broadcastInDim S32768 ![] bcast_S_S32768),
    binary main_v16 main_call2_v0 main_call2_v1 (cmpi .slt),
    nullary main_call2_c_0 (constantI S_ 32 1024#32),
    unary main_call2_c_0 main_call2_v2 (broadcastInDim S32768 ![] bcast_S_S32768),
    binary main_v16 main_call2_v2 main_call2_v3 addi,
    ternary main_call2_v1 main_call2_v3 main_v16 main_call2_v4 select,
    unary main_call2_v4 main_call2_v5 (broadcastInDim S32768x1 ![0] bcast_S32768_S32768x1_0),
    nullary main_call2_c_1 (constantI S1 32 1023#32),
    nullary main_call2_c_2 (constantI S_ 32 0#32),
    unary main_call2_c_2 main_call2_v6 (broadcastInDim S32768x1 ![] bcast_S_S32768x1),
    binary main_call2_v5 main_call2_v6 main_call2_v7 (cmpi .sge),
    unary main_call2_c_1 main_call2_v8 (broadcastInDim S1x1 ![1] bcast_S1_S1x1_1),
    unary main_call2_v8 main_call2_v9 (broadcastInDim S32768x1 ![0, 1] bcast_S1x1_S32768x1_0_1),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S32768x1_S32768_d1 h_S_),
    binary main_arg1 main_call2_v5 main_call2_v13 (fun x i => Host.gather gather_S1024x64_S32768x1_S32768x64_1_0_n_n_0_1_164 x i),
    unary main_call2_v12 main_call2_v14 (broadcastInDim S32768x64 ![0] bcast_S32768_S32768x64_0),
    nullary main_call2_cst (constant S_ .f32 0x7FC00000#32),
    unary main_call2_cst main_call2_v15 (broadcastInDim S32768x64 ![] bcast_S_S32768x64),
    ternary main_call2_v14 main_call2_v13 main_call2_v15 main_v31 select ]

/-- The operations of the loss and of the quantised output. -/
abbrev opsOut : List (HloOp τ sig (Elt F)) :=
  [ reshape main_v31 main_v32 (rfl : (.f32 : EltTy) = .f32) shapeCasts_S32768x64_S4x8x32x32x64,
    binary main_v32 main_v0 main_v33 subf,
    binary main_v33 main_v33 main_v34 mulf,
    nullary main_cst_8 (constant S_ .f32 0x00000000#32),
    binary main_v34 main_cst_8 main_v35 (fun x v => Host.reduceAdd x v reducesTo_S4x8x32x32x64_S_d0_1_2_3_4 h_S_),
    nullary main_cst_9 (constant S_ .f32 0x4A000000#32),
    binary main_v35 main_cst_9 main_v36 Host.divf,
    binary main_v32 main_v0 main_v37 subf,
    binary main_v37 main_v37 main_v38 mulf,
    nullary main_cst_10 (constant S_ .f32 0x00000000#32),
    binary main_v38 main_cst_10 main_v39 (fun x v => Host.reduceAdd x v reducesTo_S4x8x32x32x64_S_d0_1_2_3_4 h_S_),
    nullary main_cst_11 (constant S_ .f32 0x4A000000#32),
    binary main_v39 main_cst_11 main_v40 Host.divf,
    nullary main_cst_12 (constant S_ .f32 0x3E800000#32),
    binary main_cst_12 main_v36 main_v41 mulf,
    binary main_v40 main_v41 main_v42 addf,
    binary main_v32 main_v0 main_v43 subf,
    binary main_v0 main_v43 main_v44 addf,
    unary main_v44 main_v45 (transpose S4x64x8x32x32 [0, 4, 1, 2, 3] · transposes_S4x8x32x32x64_S4x64x8x32x32_0_4_1_2_3),
    reshape main_v45 main_v46 (rfl : (.f32 : EltTy) = .f32) shapeCasts_S4x64x8x32x32_S4x64x8192,
    reshape main_v42 main_v47 (rfl : (.f32 : EltTy) = .f32) shapeCasts_S_S1x1,
    reshape main_v30 main_v48 (rfl : (.i32 : EltTy) = .i32) shapeCasts_S_S1x1 ]

/-- Each of them touches buffers of the TensorCore only. -/
theorem opsDist_sub : (opsDist : List (HloOp τ sig (Elt F))).Forall fun op => op.bufs ⊆ tcRefs τ sig :=
  ⟨unary_bufs_sub .., reshape_bufs_sub .., binary_bufs_sub .., nullary_bufs_sub .., binary_bufs_sub ..,
    unary_bufs_sub .., nullary_bufs_sub .., unary_bufs_sub .., binary_bufs_sub .., unary_bufs_sub ..,
    binary_bufs_sub .., unary_bufs_sub .., binary_bufs_sub .., binary_bufs_sub .., nullary_bufs_sub ..,
    binary_bufs_sub .., unary_bufs_sub .., unary_bufs_sub .., binary_bufs_sub ..⟩

/-- Each of them touches buffers of the TensorCore only. -/
theorem opsCode_sub : (opsCode : List (HloOp τ sig (Elt F))).Forall fun op => op.bufs ⊆ tcRefs τ sig :=
  ⟨nullary_bufs_sub .., nullary_bufs_sub .., nullary_bufs_sub .., quaternary_bufs_sub .., quaternary_bufs_sub ..⟩

/-- Each of them touches buffers of the TensorCore only. -/
theorem opsCount_sub : (opsCount : List (HloOp τ sig (Elt F))).Forall fun op => op.bufs ⊆ tcRefs τ sig :=
  ⟨nullary_bufs_sub .., unary_bufs_sub .., nullary_bufs_sub .., unary_bufs_sub .., unary_bufs_sub ..,
    binary_bufs_sub .., nullary_bufs_sub .., unary_bufs_sub .., binary_bufs_sub .., nullary_bufs_sub ..,
    unary_bufs_sub .., binary_bufs_sub .., ternary_bufs_sub .., unary_bufs_sub .., nullary_bufs_sub ..,
    unary_bufs_sub .., ternary_bufs_sub .., nullary_bufs_sub .., unary_bufs_sub .., binary_bufs_sub ..,
    unary_bufs_sub .., nullary_bufs_sub .., binary_bufs_sub ..⟩

/-- Each of them touches buffers of the TensorCore only. -/
theorem opsTake_sub : (opsTake : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩

/-- Each of them touches buffers of the TensorCore only. -/
theorem opsOut_sub : (opsOut : List (HloOp τ sig (Elt F))).Forall fun op => op.bufs ⊆ tcRefs τ sig :=
  ⟨reshape_bufs_sub .., binary_bufs_sub .., binary_bufs_sub .., nullary_bufs_sub .., binary_bufs_sub ..,
    nullary_bufs_sub .., binary_bufs_sub .., binary_bufs_sub .., binary_bufs_sub .., nullary_bufs_sub ..,
    binary_bufs_sub .., nullary_bufs_sub .., binary_bufs_sub .., nullary_bufs_sub .., binary_bufs_sub ..,
    binary_bufs_sub .., binary_bufs_sub .., binary_bufs_sub .., unary_bufs_sub .., reshape_bufs_sub ..,
    reshape_bufs_sub .., reshape_bufs_sub ..⟩

/-- The whole line. -/
abbrev ops : List (HloOp τ sig (Elt F)) := opsDist ++ (opsCode ++ (opsCount ++ (opsTake ++ opsOut)))

set_option maxRecDepth 1000000 in
set_option maxHeartbeats 2000000 in
/-- `@main` is that line. -/
theorem main_eq (c : Dev nD) : main (F := F) c = seq ops := (rfl)

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- Every operation of the line touches buffers of the TensorCore only. -/
theorem ops_sub : (ops : List (HloOp τ sig (Elt F))).Forall fun op => op.bufs ⊆ tcRefs τ sig := by
  simp only [ops, List.forall_append]
  exact ⟨opsDist_sub, opsCode_sub, opsCount_sub, opsTake_sub, opsOut_sub⟩

/-- From any memory with zero counters every execution of `@main` ends, each buffer at what the line leaves there. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.Proof.Ref

end
-- ==== Proof.RefTerms.lean ====
/-
  What the reference computes, as functions of its two arguments: the tokens, the distances, the chosen codes, the number
  of codes used, the looked-up codes, the loss and the quantised output.
-/
module

public import proofs.«01_k».proof.Proof.Gen.ReferenceIdeal

@[expose] public section

noncomputable section

namespace Cert.Proof.Ref

open Cert.ReferenceIdeal Cert.ReferenceIdeal.Gen
open Idealize.ShloMosaic Idealize.SL.Sem

variable {F : FTy → Type} [FloatOps F]

/-- The input with its channels moved last. -/
def moved (z : FVec F S4x64x8x32x32 .f32) : FVec F S4x8x32x32x64 .f32 :=
  transpose S4x8x32x32x64 [0, 2, 3, 4, 1] z transposes_S4x64x8x32x32_S4x8x32x32x64_0_2_3_4_1

/-- The tokens, one per row. -/
def tokens (z : FVec F S4x64x8x32x32 .f32) : FVec F S32768x64 .f32 :=
  shapeCast S32768x64 (moved z) shapeCasts_S4x8x32x32x64_S32768x64

/-- The distances of all tokens `t` to all codes. -/
def distOf (t : FVec F S32768x64 .f32) (w : FVec F S1024x64 .f32) : FVec F S32768x1024 .f32 :=
  addf
    (subf
      (broadcastInDim S32768x1024 ![0, 1] bcast_S32768x1_S32768x1024_0_1
        (broadcastInDim S32768x1 ![0] bcast_S32768_S32768x1_0
          (Host.reduceAdd (mulf t t) (constant S_ .f32 0x00000000#32) reducesTo_S32768x64_S32768_d1 h_S_)))
      (Host.dotGeneral dot_S32768x64_S64x1024_S32768x1024_1_0_0_1_n_n none
        (mulf (broadcastInDim S32768x64 ![] bcast_S_S32768x64 (constant S_ .f32 0x40000000#32)) t)
        (transpose S64x1024 [1, 0] w transposes_S1024x64_S64x1024_1_0)))
    (broadcastInDim S32768x1024 ![0, 1] bcast_S1x1024_S32768x1024_0_1
      (broadcastInDim S1x1024 ![1] bcast_S1024_S1x1024_1
        (Host.reduceAdd (mulf w w) (constant S_ .f32 0x00000000#32) reducesTo_S1024x64_S1024_d1 h_S_)))

/-- The row-wise argmin of `d`. -/
def codeOf (d : FVec F S32768x1024 .f32) : IVec S32768 32 :=
  fun j => (Host.argReduce reducer_argmin_f32_i32 d (iotaInDim S32768x1024 32 1) (constant S_ .f32 0x7F800000#32)
    (constantI S_ 32 0#32) reducesTo_S32768x1024_S32768_d1 h_S_ j).2

/-- A code index below zero counted from the end. -/
def wrapped (k : IVec S32768 32) : IVec S32768 32 :=
  select (cmpi .slt k (broadcastInDim S32768 ![] bcast_S_S32768 (constantI S_ 32 0#32)))
    (addi k (broadcastInDim S32768 ![] bcast_S_S32768 (constantI S_ 32 1024#32))) k

/-- The code indices clipped below at zero. -/
def clipped (k : IVec S32768 32) : IVec S32768 32 :=
  maxsi (broadcastInDim S32768 ![] bcast_S_S32768 (constantI S_ 32 0#32)) k

/-- How often each code was chosen. -/
def histogram (k : IVec S32768 32) : IVec S1024 32 :=
  Host.scatter scatter_S1024_S32768x1_S32768_n_0_0_1 IntOp.addi
    (broadcastInDim S1024 ![] bcast_S_S1024 (constantI S_ 32 0#32))
    (broadcastInDim S32768x1 ![0] bcast_S32768_S32768x1_0 (wrapped (clipped k)))
    (broadcastInDim S32768 ![] bcast_S_S32768 (constantI S_ 32 1#32))

/-- The number of codes that were chosen. -/
def uniqueOf (k : IVec S32768 32) : IVec S_ 32 :=
  Host.reduce IntOp.addi
    (extui 32 (cmpi .sgt (histogram k) (broadcastInDim S1024 ![] bcast_S_S1024 (constantI S_ 32 0#32))) natLt_1_32)
    (constantI S_ 32 0#32) reducesTo_S1024_S_d0 h_S_

/-- The wrapped indices as a column. -/
def column (k : IVec S32768 32) : IVec S32768x1 32 :=
  broadcastInDim S32768x1 ![0] bcast_S32768_S32768x1_0 (wrapped k)

/-- Which of the indices of the column `i` lie in the codebook. -/
def inside (i : IVec S32768x1 32) : IVec S32768 1 :=
  Host.reduce IntOp.andi
    (andi (cmpi .sge i (broadcastInDim S32768x1 ![] bcast_S_S32768x1 (constantI S_ 32 0#32)))
      (cmpi .sle i (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The rows of the codebook at the indices `k`. -/
def takeOf (w : FVec F S1024x64 .f32) (k : IVec S32768 32) : FVec F S32768x64 .f32 :=
  select (broadcastInDim S32768x64 ![0] bcast_S32768_S32768x64_0 (inside (column k)))
    (Host.gather gather_S1024x64_S32768x1_S32768x64_1_0_n_n_0_1_164 w (column k))
    (broadcastInDim S32768x64 ![] bcast_S_S32768x64 (constant S_ .f32 0x7FC00000#32))

/-- The looked-up rows in the layout of the moved input. -/
def laid (t : FVec F S32768x64 .f32) : FVec F S4x8x32x32x64 .f32 :=
  shapeCast S4x8x32x32x64 t shapeCasts_S32768x64_S4x8x32x32x64

/-- The mean of the squared differences of `q` and `z`. -/
def meanSq (q z : FVec F S4x8x32x32x64 .f32) : FVec F S_ .f32 :=
  Host.divf (Host.reduceAdd (mulf (subf q z) (subf q z)) (constant S_ .f32 0x00000000#32)
    reducesTo_S4x8x32x32x64_S_d0_1_2_3_4 h_S_) (constant S_ .f32 0x4A000000#32)

/-- The loss, as a one by one array. -/
def lossOf (q z : FVec F S4x8x32x32x64 .f32) : FVec F S1x1 .f32 :=
  shapeCast S1x1 (addf (meanSq q z) (mulf (constant S_ .f32 0x3E800000#32) (meanSq q z))) shapeCasts_S_S1x1

/-- The quantised output, its spatial axes merged. -/
def outOf (q z : FVec F S4x8x32x32x64 .f32) : FVec F S4x64x8192 .f32 :=
  shapeCast S4x64x8192
    (transpose S4x64x8x32x32 [0, 4, 1, 2, 3] (addf z (subf q z)) transposes_S4x8x32x32x64_S4x64x8x32x32_0_4_1_2_3)
    shapeCasts_S4x64x8x32x32_S4x64x8192

/-- The codes the reference chooses. -/
def codes (z : FVec F S4x64x8x32x32 .f32) (w : FVec F S1024x64 .f32) : IVec S32768 32 :=
  codeOf (distOf (tokens z) w)

/-- The chosen rows of the codebook in the layout of the moved input. -/
def chosen (z : FVec F S4x64x8x32x32 .f32) (w : FVec F S1024x64 .f32) : FVec F S4x8x32x32x64 .f32 :=
  laid (takeOf w (codes z w))

end Cert.Proof.Ref

end
-- ==== Proof.RefRun.lean ====
/-
  The reference's run: from any memory with zero counters it ends with its three results at the functions of
  `RefTerms` of its arguments, the arguments unchanged and every counter at zero.
-/
module

public import proofs.«01_k».proof.Proof.RefLine
public import proofs.«01_k».proof.Proof.RefTerms
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- After the first stretch: the distances, -/
theorem dist_v15 (V : Valuation τ sig (Elt F)) :
    after opsDist V (main_v15 : DevRef τ sig)
      = distOf (tokens (V (main_arg0 : DevRef τ sig))) (V (main_arg1 : DevRef τ sig)) := by
  after_results
  rfl

/-- the moved input, -/
theorem dist_v0 (V : Valuation τ sig (Elt F)) :
    after opsDist V (main_v0 : DevRef τ sig) = moved (V (main_arg0 : DevRef τ sig)) := by
  after_results
  rfl

/-- and the arguments as they were. -/
theorem dist_arg0 (V : Valuation τ sig (Elt F)) :
    after opsDist V (main_arg0 : DevRef τ sig) = V (main_arg0 : DevRef τ sig) := by
  after_results

theorem dist_arg1 (V : Valuation τ sig (Elt F)) :
    after opsDist V (main_arg1 : DevRef τ sig) = V (main_arg1 : DevRef τ sig) := by
  after_results

/-- After the second stretch: the chosen codes. -/
theorem code_v16 (V : Valuation τ sig (Elt F)) :
    after opsCode V (main_v16 : DevRef τ sig) = codeOf (V (main_v15 : DevRef τ sig)) := by
  after_results
  rfl

theorem code_v0 (V : Valuation τ sig (Elt F)) :
    after opsCode V (main_v0 : DevRef τ sig) = V (main_v0 : DevRef τ sig) := by
  after_results

theorem code_arg0 (V : Valuation τ sig (Elt F)) :
    after opsCode V (main_arg0 : DevRef τ sig) = V (main_arg0 : DevRef τ sig) := by
  after_results

theorem code_arg1 (V : Valuation τ sig (Elt F)) :
    after opsCode V (main_arg1 : DevRef τ sig) = V (main_arg1 : DevRef τ sig) := by
  after_results

/-- After the third stretch: the number of codes used. -/
theorem count_v30 (V : Valuation τ sig (Elt F)) :
    after opsCount V (main_v30 : DevRef τ sig) = uniqueOf (V (main_v16 : DevRef τ sig)) := by
  after_results
  rfl

theorem count_v16 (V : Valuation τ sig (Elt F)) :
    after opsCount V (main_v16 : DevRef τ sig) = V (main_v16 : DevRef τ sig) := by
  after_results

theorem count_v0 (V : Valuation τ sig (Elt F)) :
    after opsCount V (main_v0 : DevRef τ sig) = V (main_v0 : DevRef τ sig) := by
  after_results

theorem count_arg0 (V : Valuation τ sig (Elt F)) :
    after opsCount V (main_arg0 : DevRef τ sig) = V (main_arg0 : DevRef τ sig) := by
  after_results

theorem count_arg1 (V : Valuation τ sig (Elt F)) :
    after opsCount V (main_arg1 : DevRef τ sig) = V (main_arg1 : DevRef τ sig) := by
  after_results

/-- After the fourth stretch: the rows looked up. -/
theorem take_v31 (V : Valuation τ sig (Elt F)) :
    after opsTake V (main_v31 : DevRef τ sig)
      = takeOf (V (main_arg1 : DevRef τ sig)) (V (main_v16 : DevRef τ sig)) := by
  after_results
  rfl

theorem take_v30 (V : Valuation τ sig (Elt F)) :
    after opsTake V (main_v30 : DevRef τ sig) = V (main_v30 : DevRef τ sig) := by
  after_results

theorem take_v0 (V : Valuation τ sig (Elt F)) :
    after opsTake V (main_v0 : DevRef τ sig) = V (main_v0 : DevRef τ sig) := by
  after_results

theorem take_arg0 (V : Valuation τ sig (Elt F)) :
    after opsTake V (main_arg0 : DevRef τ sig) = V (main_arg0 : DevRef τ sig) := by
  after_results

theorem take_arg1 (V : Valuation τ sig (Elt F)) :
    after opsTake V (main_arg1 : DevRef τ sig) = V (main_arg1 : DevRef τ sig) := by
  after_results

/-- After the last stretch: the three results, and the arguments as they were. -/
theorem out_v46 (V : Valuation τ sig (Elt F)) :
    after opsOut V (main_v46 : DevRef τ sig)
      = outOf (laid (V (main_v31 : DevRef τ sig))) (V (main_v0 : DevRef τ sig)) := by
  after_results
  rfl

theorem out_v47 (V : Valuation τ sig (Elt F)) :
    after opsOut V (main_v47 : DevRef τ sig)
      = lossOf (laid (V (main_v31 : DevRef τ sig))) (V (main_v0 : DevRef τ sig)) := by
  after_results
  rfl

theorem out_v48 (V : Valuation τ sig (Elt F)) :
    after opsOut V (main_v48 : DevRef τ sig)
      = shapeCast S1x1 (V (main_v30 : DevRef τ sig) : IVec S_ 32) shapeCasts_S_S1x1 := by
  after_results
  rfl

theorem out_arg0 (V : Valuation τ sig (Elt F)) :
    after opsOut V (main_arg0 : DevRef τ sig) = V (main_arg0 : DevRef τ sig) := by
  after_results

theorem out_arg1 (V : Valuation τ sig (Elt F)) :
    after opsOut V (main_arg1 : DevRef τ sig) = V (main_arg1 : DevRef τ sig) := by
  after_results

/-- The reference's run, its results as functions of its arguments. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = outOf (chosen (m ((c.tc : Thread nD τ).loc main_arg0)) (m ((c.tc : Thread nD τ).loc main_arg1)))
              (moved (m ((c.tc : Thread nD τ).loc main_arg0)))
        ∧ r.2.mem ((c.tc : Thread nD τ).loc main_v47)
          = lossOf (chosen (m ((c.tc : Thread nD τ).loc main_arg0)) (m ((c.tc : Thread nD τ).loc main_arg1)))
              (moved (m ((c.tc : Thread nD τ).loc main_arg0)))
        ∧ r.2.mem ((c.tc : Thread nD τ).loc main_v48)
          = shapeCast S1x1 (uniqueOf (codes (m ((c.tc : Thread nD τ).loc main_arg0))
              (m ((c.tc : Thread nD τ).loc main_arg1)))) shapeCasts_S_S1x1
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run defs _ _).mono (fun r h c => ?_) (run_ops m ρ)
  have e : ∀ b : Ref sig .tc, r.2.mem ((c.tc : Thread nD τ).loc b)
      = after opsOut (after opsTake (after opsCount (after opsCode (after opsDist (launchContents m c)))))
          (Proc.devRef .tc b) := fun b => by
    rw [h c b]; simp only [ops, after_append]
  refine ⟨?_, ?_, ?_, ?_, ?_⟩
  · rw [e, out_v46, take_v31, take_v0, count_arg1, count_v16, count_v0, code_arg1, code_v16, code_v0, dist_arg1,
      dist_v15, dist_v0]
    rfl
  · rw [e, out_v47, take_v31, take_v0, count_arg1, count_v16, count_v0, code_arg1, code_v16, code_v0, dist_arg1,
      dist_v15, dist_v0]
    rfl
  · rw [e, out_v48, take_v30, count_v30, code_v16, dist_v15]
    rfl
  · rw [e, out_arg0, take_arg0, count_arg0, code_arg0, dist_arg0]
  · rw [e, out_arg1, take_arg1, count_arg1, code_arg1, dist_arg1]

/-- The frame of the reference: the arguments end unchanged and every counter at zero; the program has no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0 :=
  (θ_run defs _ _).mono
    (fun r h => ⟨fun c => (h c).2.2.2, sem_eq_zero_of_no_sems (by decide) r.2⟩) (run_main m ρ)

end Cert.Proof.Ref

end
-- ==== Proof.Spec.lean ====
/-
  The mathematics both programs compute, over the real numbers: the squared distance of a token to a code, the first
  nearest code, and how the sums, minima and counts of extended reals and words come down to it.
-/
module

public import Idealize.ShloMosaic.Lib.Pointwise
public import Idealize.ShloMosaic.Lib.SortNet.Extract

@[expose] public section

noncomputable section

namespace Cert.Proof.Spec

open Idealize.ShloMosaic

/-- The squared distance of the token `x` to the code `k` of the codebook `w`. -/
def dist (x : Fin 64 → ℝ) (w : Fin 1024 → Fin 64 → ℝ) (k : Fin 1024) : ℝ :=
  ∑ c, (w k c - x c) * (w k c - x c)

/-- The squared distance, its square expanded. -/
theorem dist_expanded (x : Fin 64 → ℝ) (w : Fin 1024 → Fin 64 → ℝ) (k : Fin 1024) :
    dist x w k = (∑ c, x c * x c) - 2 * (∑ c, x c * w k c) + ∑ c, w k c * w k c := by
  rw [dist, Finset.mul_sum, ← Finset.sum_sub_distrib, ← Finset.sum_add_distrib]
  exact Finset.sum_congr rfl fun c _ => by ring

/-- The codes at which `d` is least. -/
def minimisers (d : Fin 1024 → ℝ) : Finset (Fin 1024) := Finset.univ.filter fun k => ∀ l, d k ≤ d l

theorem minimisers_nonempty (d : Fin 1024 → ℝ) : (minimisers d).Nonempty := by
  obtain ⟨k, hk⟩ := Finite.exists_min d
  exact ⟨k, by simpa [minimisers] using hk⟩

/-- The first code at which `d` is least. -/
def nearest (d : Fin 1024 → ℝ) : Fin 1024 := (minimisers d).min' (minimisers_nonempty d)

/-- `d` is least at the nearest code. -/
theorem nearest_le (d : Fin 1024 → ℝ) (l : Fin 1024) : d (nearest d) ≤ d l := by
  have h := (minimisers d).min'_mem (minimisers_nonempty d)
  exact (Finset.mem_filter.1 h).2 l

/-- No earlier code is as near. -/
theorem nearest_first (d : Fin 1024 → ℝ) (k : Fin 1024) (h : d k ≤ d (nearest d)) : nearest d ≤ k :=
  (minimisers d).min'_le k (Finset.mem_filter.2 ⟨Finset.mem_univ _, fun l => h.trans (nearest_le d l)⟩)

/-- A code that is nearer than all earlier ones and as near as all later ones is the nearest one. -/
theorem eq_nearest (d : Fin 1024 → ℝ) (k : Fin 1024) (h : ∀ l, d k ≤ d l) (h' : ∀ l, l < k → d k < d l) :
    k = nearest d := by
  refine le_antisymm (not_lt.1 fun hlt => ?_) (nearest_first d k (h _))
  exact absurd (nearest_le d k) (not_le.2 (h' _ hlt))

/-- The code chosen for the token `x`. -/
def code (x : Fin 64 → ℝ) (w : Fin 1024 → Fin 64 → ℝ) : Fin 1024 := nearest (dist x w)

/-! ## Extended reals and words -/

/-- A sum of real numbers taken in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The pattern of positive infinity. -/
theorem ofBits_inf : Ideal.ofBits .f32 0x7F800000#32 = ⊤ := by simp [Ideal.ofBits, Ideal.ieee]

/-- The pattern of negative infinity. -/
theorem ofBits_neg_inf : Ideal.ofBits .f32 0xFF800000#32 = ⊥ := by simp [Ideal.ofBits, Ideal.ieee]

/-- The pattern of two. -/
theorem ofBits_two : Ideal.ofBits .f32 0x40000000#32 = ((2 : ℝ) : EReal) := by
  simp [Ideal.ofBits, Ideal.ieee]; rw [← EReal.coe_mul]; norm_num

/-- The pattern of minus two. -/
theorem ofBits_neg_two : Ideal.ofBits .f32 0xC0000000#32 = ((-2 : ℝ) : EReal) := by
  simp [Ideal.ofBits, Ideal.ieee]; rw [← EReal.coe_mul]; norm_num

/-- The least of real values, taken in the extended reals from positive infinity, is the value at the nearest code. -/
theorem fold_min_eq (d : Fin 1024 → ℝ) :
    Finset.univ.fold min (⊤ : EReal) (fun k => (d k : EReal)) = ((d (nearest d) : ℝ) : EReal) := by
  refine le_antisymm (Finset.fold_min_le _ |>.2 (.inr ⟨nearest d, Finset.mem_univ _, le_rfl⟩)) ?_
  exact (Finset.le_fold_min _).2 ⟨le_top, fun k _ => EReal.coe_le_coe_iff.2 (nearest_le d k)⟩

/-- The signed least of the numbers of the codes at which `d` is least, all other codes counting as 1024, is the number
    of the nearest code. -/
theorem fold_minsi_eq (d : Fin 1024 → ℝ) :
    Finset.univ.fold IntOp.minsi (2147483647#32)
      (fun k : Fin 1024 => if (d k : EReal) = ((d (nearest d) : ℝ) : EReal) then BitVec.ofNat 32 k else 1024#32)
      = BitVec.ofNat 32 (nearest d) := by
  have small : ∀ k : Fin 1024, (BitVec.ofNat 32 k).toInt = (k : ℤ) := fun k => by
    have := k.isLt
    rw [BitVec.toInt_eq_toNat_of_lt (by rw [BitVec.toNat_ofNat]; omega), BitVec.toNat_ofNat]; omega
  apply BitVec.eq_of_toInt_eq
  rw [← Finset.fold_hom (op' := (min : ℤ → ℤ → ℤ)) (m := BitVec.toInt) (SortNet.toInt_minsi), small]
  refine le_antisymm (Finset.fold_min_le _ |>.2 (.inr ⟨nearest d, Finset.mem_univ _, ?_⟩)) ?_
  · rw [if_pos rfl, small]
  · refine (Finset.le_fold_min _).2 ⟨?_, fun k _ => ?_⟩
    · have := (nearest d).isLt
      rw [show (2147483647#32).toInt = 2147483647 by decide]; omega
    · split
      · rename_i h
        rw [small]
        exact_mod_cast nearest_first d k (EReal.coe_eq_coe_iff.1 h).le
      · have := (nearest d).isLt
        rw [show (1024#32).toInt = 1024 by decide]; omega

/-- Two words below 1024 are equal exactly when their numbers are. -/
theorem ofNat_code_inj (k l : Fin 1024) : BitVec.ofNat 32 k = BitVec.ofNat 32 l ↔ k = l := by
  refine ⟨fun h => Fin.ext ?_, fun h => h ▸ rfl⟩
  have h' := congrArg BitVec.toNat h
  simp only [BitVec.toNat_ofNat] at h'
  omega

/-- A natural number of at most 1024 converts to the word of its value. -/
theorem fptosi_natCast (n : ℕ) (h : n ≤ 1024) : Ideal.fptosi 32 ((n : ℝ) : EReal) = BitVec.ofNat 32 n := by
  have e : Ideal.toIntClamped (-(2 ^ 31 : Nat)) ((2 ^ 31 : Nat) - 1) ((n : ℝ) : EReal) = (n : ℤ) := by
    show max _ (min _ (if (0 : ℝ) ≤ (n : ℝ) then ⌊(n : ℝ)⌋ else ⌈(n : ℝ)⌉)) = (n : ℤ)
    rw [if_pos (Nat.cast_nonneg n), Int.floor_natCast]
    push_cast
    omega
  rw [Ideal.fptosi, e, BitVec.ofInt_natCast]

end Cert.Proof.Spec

end
-- ==== Proof.Tokens.lean ====
/-
  The three results as functions of the two arguments: the quantised tokens, the loss and the number of codes used.
-/
module

public import proofs.«01_k».proof.Proof.Gen.KernelIdeal
public import proofs.«01_k».proof.Proof.Spec

@[expose] public section

noncomputable section

namespace Cert.Proof.Spec

open Idealize.ShloMosaic Cert.KernelIdeal

/-- Every entry is a real number. -/
def Real {s : Shape} (x : FVec Ideal s .f32) : Prop := ∀ i, x i ≠ ⊤ ∧ x i ≠ ⊥

theorem Real.coe {s : Shape} {x : FVec Ideal s .f32} (h : Real x) (i : s.Idx) : x i = ((EReal.toReal (x i) : ℝ) : EReal) :=
  (EReal.coe_toReal (h i).1 (h i).2).symm

/-- The token number `n`: the entries of the input at its batch and its place, one per channel. -/
def token (z : FVec Ideal S4x64x8x32x32 .f32) (n : ℕ) (c : Fin 64) : ℝ :=
  EReal.toReal (z (ix5 ⟨n / 8192 % 4, Nat.mod_lt _ (by decide)⟩ c ⟨n / 1024 % 8, Nat.mod_lt _ (by decide)⟩
    ⟨n / 32 % 32, Nat.mod_lt _ (by decide)⟩ ⟨n % 32, Nat.mod_lt _ (by decide)⟩))

/-- The codebook. -/
def book (w : FVec Ideal S1024x64 .f32) (k : Fin 1024) (c : Fin 64) : ℝ := EReal.toReal (w (ix2 k c))

/-- The code chosen for the token number `n`. -/
def codeAt (z : FVec Ideal S4x64x8x32x32 .f32) (w : FVec Ideal S1024x64 .f32) (n : ℕ) : Fin 1024 :=
  code (token z n) (book w)

/-- The squared distance of the token number `n` to its code. -/
def leastAt (z : FVec Ideal S4x64x8x32x32 .f32) (w : FVec Ideal S1024x64 .f32) (n : ℕ) : ℝ :=
  dist (token z n) (book w) (codeAt z w n)

/-- The sum of the squared distances of all tokens to their codes. -/
def total (z : FVec Ideal S4x64x8x32x32 .f32) (w : FVec Ideal S1024x64 .f32) : ℝ :=
  ∑ n : Fin 32768, leastAt z w n

open Classical in
/-- The codes chosen for some token. -/
def used (z : FVec Ideal S4x64x8x32x32 .f32) (w : FVec Ideal S1024x64 .f32) : Finset (Fin 1024) :=
  Finset.univ.filter fun k => ∃ n : Fin 32768, k = codeAt z w n

/-- The mean of the squared differences plus a quarter of it, from their sum. -/
def lossOf (a : EReal) : EReal :=
  Ideal.div a (Ideal.ofBits .f32 0x4A000000#32)
    + Ideal.ofBits .f32 0x3E800000#32 * Ideal.div a (Ideal.ofBits .f32 0x4A000000#32)

/-- The first result: each token replaced by its code. -/
def quantised (z : FVec Ideal S4x64x8x32x32 .f32) (w : FVec Ideal S1024x64 .f32) : FVec Ideal S4x64x8192 .f32 :=
  fun i => ((book w (codeAt z w (8192 * (i 0).val + (i 2).val)) (i 1) : ℝ) : EReal)

/-- The second result: the loss. -/
def loss (z : FVec Ideal S4x64x8x32x32 .f32) (w : FVec Ideal S1024x64 .f32) : FVec Ideal S1x1 .f32 :=
  fun _ => lossOf ((total z w : ℝ) : EReal)

/-- The third result: the number of codes used. -/
def usedCount (z : FVec Ideal S4x64x8x32x32 .f32) (w : FVec Ideal S1024x64 .f32) : IVec S1x1 32 :=
  fun _ => BitVec.ofNat 32 (used z w).card

end Cert.Proof.Spec

end
-- ==== Proof.Block.lean ====
/-
  What one grid point of the kernel computes from blocks that hold real numbers: the distances, the least distance of each
  token, the indicator of its nearest code, the quantised token, and the point's contributions to the two accumulators.
-/
module

public import proofs.«01_k».proof.Proof.Gen.KernelIdeal.Skeleton
public import proofs.«01_k».proof.Proof.Tokens
public import Idealize.ShloMosaic.Lib.Pointwise

@[expose] public section

set_option maxRecDepth 16384

noncomputable section

namespace Cert.Proof.Block

open Idealize.ShloMosaic Cert.KernelIdeal Cert.KernelIdeal.Gen Cert.Proof.Spec

/-- The five input blocks of a grid point hold the real tokens `X` and the real codebook `W`: the tokens, the codebook,
    minus twice the codebook, the squared norms of the tokens and those of the codes. -/
structure Holds (x : Vec Ideal S1x64x2048 .f32) (w w2 : Vec Ideal S1024x64 .f32) (q : Vec Ideal S1x1x2048 .f32)
    (e : Vec Ideal S1024x1 .f32) (X : Fin 2048 → Fin 64 → ℝ) (W : Fin 1024 → Fin 64 → ℝ) : Prop where
  token : ∀ c j, x (ix3 0 c j) = ((X j c : ℝ) : EReal)
  book : ∀ k c, w (ix2 k c) = ((W k c : ℝ) : EReal)
  book2 : ∀ k c, w2 (ix2 k c) = ((-2 * W k c : ℝ) : EReal)
  norm : ∀ j, q (ix3 0 0 j) = ((∑ c, X j c * X j c : ℝ) : EReal)
  bookNorm : ∀ k, e (ix2 k 0) = ((∑ c, W k c * W k c : ℝ) : EReal)

variable {x : Vec Ideal S1x64x2048 .f32} {w w2 : Vec Ideal S1024x64 .f32} {q : Vec Ideal S1x1x2048 .f32}
  {e : Vec Ideal S1024x1 .f32} {X : Fin 2048 → Fin 64 → ℝ} {W : Fin 1024 → Fin 64 → ℝ}

/-- The distances: the token's squared norm, minus twice the inner product, plus the code's squared norm. -/
theorem distance_at (h : Holds x w w2 q e X W) (k : Fin 1024) (j : Fin 2048) :
    k0_pay7 (F := Ideal) x w2 q e (ix2 k j) = ((dist (X j) W k : ℝ) : EReal) := by
  pointwise [k0_pay7, k0_pay6]
  have inner : ∑ c, w2 (ix2 k c) * x (ix3 0 c j) = ((∑ c, -2 * W k c * X j c : ℝ) : EReal) := by
    rw [coe_sum]
    exact Finset.sum_congr rfl fun c _ => by rw [h.book2, h.token, ← EReal.coe_mul]
  rw [h.norm, h.bookNorm, inner, ← EReal.coe_add, ← EReal.coe_add, dist_expanded, sub_eq_add_neg, ← neg_mul,
    Finset.mul_sum]
  congr 3
  exact Finset.sum_congr rfl fun c _ => by ring

/-- The least distance of a token is the distance to its nearest code. -/
theorem least_at (h : Holds x w w2 q e X W) (j : Fin 2048) :
    k0_pay8 (F := Ideal) x w2 q e (ix2 0 j) = ((dist (X j) W (code (X j) W) : ℝ) : EReal) := by
  pointwise [k0_pay8]
  rw [ofBits_inf, show (fun k => k0_pay7 (F := Ideal) x w2 q e (ix2 k j)) = fun k => ((dist (X j) W k : ℝ) : EReal) from
    funext fun k => distance_at h k j]
  exact fold_min_eq _

/-- The indicator of the nearest code. -/
theorem indicator_at (h : Holds x w w2 q e X W) (k : Fin 1024) (j : Fin 2048) :
    k0_pay9 (F := Ideal) x w2 q e (ix2 k j) = if k = code (X j) W then 1 else 0 := by
  pointwise [k0_pay9]
  rw [show (fun k => if k0_pay7 (F := Ideal) x w2 q e (ix2 k j) = k0_pay8 (F := Ideal) x w2 q e (ix2 0 j)
      then BitVec.ofNat 32 k else 1024#32)
    = fun k : Fin 1024 => if ((dist (X j) W k : ℝ) : EReal) = ((dist (X j) W (code (X j) W) : ℝ) : EReal)
      then BitVec.ofNat 32 k else 1024#32 from funext fun k => by rw [distance_at h, least_at h]]
  rw [code, fold_minsi_eq]
  by_cases hk : k = nearest (dist (X j) W)
  · rw [if_pos hk, ← hk]
    simp [IntOp.cmpi, FloatOps.sitofp]
  · rw [if_neg hk, IntOp.cmpi, beq_false_of_ne (mt (ofNat_code_inj k (nearest (dist (X j) W))).1 hk)]
    simp [FloatOps.sitofp]

/-- The quantised token: the nearest code. -/
theorem quantised_at (h : Holds x w w2 q e X W) (c : Fin 64) (j : Fin 2048) :
    k0_pay10 (F := Ideal) x w w2 q e (ix3 0 c j) = ((W (code (X j) W) c : ℝ) : EReal) := by
  pointwise [k0_pay10, k0_pay6]
  rw [h.token, Finset.sum_congr rfl fun k _ => by
    rw [indicator_at h, mul_ite, mul_one, mul_zero], Finset.sum_ite_eq' Finset.univ (code (X j) W),
    if_pos (Finset.mem_univ _), h.book, ← EReal.coe_sub, ← EReal.coe_add]
  congr 1
  ring

/-- The block of quantised tokens. -/
theorem quantised_fun (h : Holds x w w2 q e X W) :
    k0_pay10 (F := Ideal) x w w2 q e = fun i => ((W (code (X (i 2)) W) (i 1) : ℝ) : EReal) := by
  funext i
  have hi : i = ix3 (0 : Fin 1) (i 1) (i 2) := by
    funext a; fin_cases a
    · exact Subsingleton.elim (α := Fin 1) _ _
    · rfl
    · rfl
  rw [hi]
  exact quantised_at h (i 1) (i 2)

/-- The codes used so far after a point: those used before it and those nearest to one of its tokens. -/
theorem used_at (p : Vec Ideal S1024x1 .f32) (P : Fin 1024 → Prop) [DecidablePred P]
    (hp : ∀ k, p (ix2 k 0) = if P k then 1 else 0) (h : Holds x w w2 q e X W) (k : Fin 1024) :
    k0_pay1 (F := Ideal) (k0_pay9 (F := Ideal) x w2 q e) p (ix2 k 0)
      = if P k ∨ ∃ j, k = code (X j) W then 1 else 0 := by
  pointwise [k0_pay1]
  rw [hp, ofBits_neg_inf, show (fun j => k0_pay9 (F := Ideal) x w2 q e (ix2 k j))
    = fun j => if k = code (X j) W then 1 else 0 from funext fun j => indicator_at h k j]
  by_cases hj : ∃ j, k = code (X j) W
  · have : (Finset.univ.fold max (⊥ : EReal) fun j => if k = code (X j) W then (1 : EReal) else 0) = 1 := by
      obtain ⟨j, hj⟩ := hj
      exact le_antisymm ((Finset.fold_max_le _).2 ⟨bot_le, fun j _ => by split <;> simp⟩)
        ((Finset.le_fold_max _).2 (.inr ⟨j, Finset.mem_univ _, by rw [if_pos hj]⟩))
    rw [this, if_pos (Or.inr hj)]
    split <;> simp
  · have : (Finset.univ.fold max (⊥ : EReal) fun j => if k = code (X j) W then (1 : EReal) else 0) = 0 := by
      refine le_antisymm ((Finset.fold_max_le _).2 ⟨bot_le, fun j _ => ?_⟩)
        ((Finset.le_fold_max _).2 (.inr ⟨0, Finset.mem_univ _, ?_⟩))
      · rw [if_neg fun e => hj ⟨j, e⟩]
      · rw [if_neg fun e => hj ⟨0, e⟩]
    rw [this]
    by_cases hP : P k <;> simp [hP, hj]

/-- The sum a point leaves: the sum before it and that of the row `p`. -/
theorem sum_at (p : FVec Ideal S1x2048 .f32) (a : EReal) : k0_pay2 (F := Ideal) p a = a + ∑ j, p (ix2 0 j) := by
  pointwise [k0_pay2]

/-- The sum of least distances after a point: the sum before it and that of its tokens. -/
theorem total_at (h : Holds x w w2 q e X W) (a : ℝ) :
    k0_pay2 (F := Ideal) (k0_pay8 (F := Ideal) x w2 q e) ((a : ℝ) : EReal)
      = ((a + ∑ j, dist (X j) W (code (X j) W) : ℝ) : EReal) := by
  rw [sum_at, EReal.coe_add, coe_sum]
  exact congrArg _ (Finset.sum_congr rfl fun j _ => least_at h j)

/-- The loss the last point stores. -/
theorem loss_at (a : EReal) : k0_pay3 (F := Ideal) a = lossOf a := by
  pointwise [k0_pay3, lossOf]

/-- The number of codes used, which the last point stores. -/
theorem count_at (p : Vec Ideal S1024x1 .f32) (P : Fin 1024 → Prop) [DecidablePred P]
    (hp : ∀ k, p (ix2 k 0) = if P k then 1 else 0) :
    Scalar.fptosi 32 (k0_pay4 (F := Ideal) p) = BitVec.ofNat 32 (Finset.univ.filter P).card := by
  have e : k0_pay4 (F := Ideal) p = (((Finset.univ.filter P).card : ℝ) : EReal) := by
    pointwise [k0_pay4]
    simp only [Fin.sum_univ_one, hp]
    rw [Finset.sum_boole]; rfl
  rw [e]
  refine fptosi_natCast _ ((Finset.card_filter_le _ _).trans ?_)
  rw [Finset.card_univ, Fintype.card_fin]

end Cert.Proof.Block

end
-- ==== Proof.Inputs.lean ====
/-
  The blocks a grid point reads: the arrays the host computes before the kernel, and the block of each at the point. When
  the arguments hold real numbers, so do the blocks: the point's tokens, the codebook and their squared norms.
-/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Proof.Inputs

open Idealize.ShloMosaic Idealize.ShloMosaic.TcCoe Idealize.SL.Sem Cert.KernelIdeal Cert.KernelIdeal.Gen
open Cert.Proof.Spec

variable (m : (ℓ : Loc nD τ sig) → Buf (Elt Ideal) ℓ) (c : Dev nD)

/-- The block index of every window at point `t`. -/
theorem idx : ∀ t : Fin cfg0.N, win0_0.index t = ![t.val / 4, 0, t.val % 4] ∧ win0_1.index t = ![0, 0]
    ∧ win0_2.index t = ![0, 0] ∧ win0_3.index t = ![t.val, 0, 0] ∧ win0_4.index t = ![0, 0]
    ∧ win0_5.index t = ![t.val / 4, 0, t.val % 4] :=
  (by decide +kernel : ∀ t : Fin grid0.N, _)

theorem point_lt (t : Fin cfg0.N) : t.val < 16 := lt_of_lt_of_eq t.isLt N_0

/-- The input, its spatial axes merged. -/
def merged (z : FVec Ideal S4x64x8x32x32 .f32) : FVec Ideal S4x64x8192 .f32 :=
  shapeCast S4x64x8192 z shapeCasts_S4x64x8x32x32_S4x64x8192

/-- The squared norms of the tokens, one row per grid point. -/
def norms (z : FVec Ideal S4x64x8192 .f32) : FVec Ideal S16x1x2048 .f32 :=
  shapeCast S16x1x2048 (Host.reduceAdd (mulf z z) (constant S_ .f32 0x00000000#32) reducesTo_S4x64x8192_S4x8192_d1 h_S_)
    shapeCasts_S4x8192_S16x1x2048

/-- The squared norms of the codes. -/
def bookNorms (w : FVec Ideal S1024x64 .f32) : FVec Ideal S1024x1 .f32 :=
  shapeCast S1024x1 (Host.reduceAdd (mulf w w) (constant S_ .f32 0x00000000#32) reducesTo_S1024x64_S1024_d1 h_S_)
    shapeCasts_S1024_S1024x1

/-- Minus twice the codebook. -/
def book2 (w : FVec Ideal S1024x64 .f32) : FVec Ideal S1024x64 .f32 :=
  mulf (broadcastInDim S1024x64 ![] bcast_S_S1024x64 (constant S_ .f32 0xC0000000#32)) w

/-! ## What the host leaves for the kernel -/

theorem host_merged : V m c main_call0_v0 = merged (m ((c : Thread nD τ).loc main_arg0)) := by
  entry_read; rfl

theorem host_norms : V m c main_call0_v3 = norms (merged (m ((c : Thread nD τ).loc main_arg0))) := by
  entry_read; rfl

theorem host_bookNorms : V m c main_call0_v6 = bookNorms (m ((c : Thread nD τ).loc main_arg1)) := by
  entry_read; rfl

theorem host_book2 : V m c main_call0_v8 = book2 (m ((c : Thread nD τ).loc main_arg1)) := by
  entry_read; rfl

/-! ## The blocks of the arrays -/

theorem block_tokens (t : Fin cfg0.N) (ch : Fin 64) (j : Fin 2048) :
    (iblk m c 0 t : Vec Ideal S1x64x2048 .f32) (ix3 0 ch j) = merged (m ((c : Thread nD τ).loc main_arg0))
      (ix3 ⟨t.val / 4, by have := point_lt t; omega⟩ ch ⟨t.val % 4 * 2048 + j, by omega⟩) := by
  blk_simp [iblk]
  rw [host_merged]
  blk_ext [idx t]

theorem block_book (t : Fin cfg0.N) (k : Fin 1024) (ch : Fin 64) :
    (iblk m c 1 t : Vec Ideal S1024x64 .f32) (ix2 k ch) = m ((c : Thread nD τ).loc main_arg1) (ix2 k ch) := by
  blk_ext [iblk, V, idx t]

theorem block_book2 (t : Fin cfg0.N) (k : Fin 1024) (ch : Fin 64) :
    (iblk m c 2 t : Vec Ideal S1024x64 .f32) (ix2 k ch) = book2 (m ((c : Thread nD τ).loc main_arg1)) (ix2 k ch) := by
  blk_simp [iblk]
  rw [host_book2]
  blk_ext [idx t]

theorem block_norms (t : Fin cfg0.N) (j : Fin 2048) :
    (iblk m c 3 t : Vec Ideal S1x1x2048 .f32) (ix3 0 0 j) = norms (merged (m ((c : Thread nD τ).loc main_arg0)))
      (ix3 ⟨t.val, point_lt t⟩ 0 j) := by
  blk_simp [iblk]
  rw [host_norms]
  blk_ext [idx t]

theorem block_bookNorms (t : Fin cfg0.N) (k : Fin 1024) :
    (iblk m c 4 t : Vec Ideal S1024x1 .f32) (ix2 k 0) = bookNorms (m ((c : Thread nD τ).loc main_arg1)) (ix2 k 0) := by
  blk_simp [iblk]
  rw [host_bookNorms]
  blk_ext [idx t]

/-! ## Their entries as real numbers -/

theorem merged_at {z : FVec Ideal S4x64x8x32x32 .f32} (hz : Real z) (b : Fin 4) (ch : Fin 64) (s : Fin 8192) :
    merged z (ix3 b ch s) = ((token z (8192 * b + s) ch : ℝ) : EReal) := by
  pointwise [merged]
  rw [hz.coe, token]
  congr 4 <;> exact Fin.ext (by dsimp only; omega)

theorem norms_at {z : FVec Ideal S4x64x8x32x32 .f32} (hz : Real z) (t : Fin 16) (j : Fin 2048) :
    norms (merged z) (ix3 t 0 j)
      = ((∑ ch, token z (2048 * t + j) ch * token z (2048 * t + j) ch : ℝ) : EReal) := by
  pointwise [norms]
  rw [coe_sum]
  refine Finset.sum_congr rfl fun ch _ => ?_
  rw [merged_at hz, ← EReal.coe_mul]
  congr 3 <;> (dsimp only; omega)

theorem bookNorms_at {w : FVec Ideal S1024x64 .f32} (hw : Real w) (k : Fin 1024) :
    bookNorms w (ix2 k 0) = ((∑ ch, book w k ch * book w k ch : ℝ) : EReal) := by
  pointwise [bookNorms]
  rw [coe_sum]
  exact Finset.sum_congr rfl fun ch _ => by rw [hw.coe, ← EReal.coe_mul, book]

theorem book2_at {w : FVec Ideal S1024x64 .f32} (hw : Real w) (k : Fin 1024) (ch : Fin 64) :
    book2 w (ix2 k ch) = ((-2 * book w k ch : ℝ) : EReal) := by
  pointwise [book2]
  rw [ofBits_neg_two, hw.coe, ← EReal.coe_mul, book]

/-- The blocks of point `t` hold its 2048 tokens and the codebook. -/
theorem holds (hz : Real (s := S4x64x8x32x32) (m ((c : Thread nD τ).loc main_arg0)))
    (hw : Real (s := S1024x64) (m ((c : Thread nD τ).loc main_arg1))) (t : Fin cfg0.N) :
    Block.Holds (iblk m c 0 t) (iblk m c 1 t) (iblk m c 2 t) (iblk m c 3 t) (iblk m c 4 t)
      (fun j => token (m ((c : Thread nD τ).loc main_arg0)) (2048 * t.val + j))
      (book (m ((c : Thread nD τ).loc main_arg1))) where
  token ch j := by
    rw [block_tokens, merged_at hz]
    congr 2
    dsimp only; omega
  book k ch := by rw [block_book, book]; exact hw.coe _
  book2 k ch := by rw [block_book2, book2_at hw]
  norm j := by rw [block_norms, norms_at hz]
  bookNorm k := by rw [block_bookNorms, bookNorms_at hw]

end Cert.Proof.Inputs

end
-- ==== Proof.Points.lean ====
/-
  What each grid point of the kernel leaves in its output blocks and in the two accumulators, as the body's values over
  the point's input blocks and the accumulators' contents before it.
-/
module

public import proofs.«01_k».proof.Proof.Gen.KernelIdeal.Value
public import Idealize.ShloMosaic.Lib.Pipeline.ValueKit

@[expose] public section

set_option maxRecDepth 16384

noncomputable section

namespace Cert.Proof.Points

open Idealize.ShloMosaic Idealize.ShloMosaic.TcCoe Idealize.SL.Sem Cert.KernelIdeal Cert.KernelIdeal.Gen

variable (m : (ℓ : Loc nD τ sig) → Buf (Elt Ideal) ℓ) (c : Dev nD)

/-- The block of indicators of the nearest codes at point `t`. -/
abbrev indicators (t : Fin cfg0.N) : FVec Ideal S1024x2048 .f32 :=
  k0_pay9 (F := Ideal) (iblk m c 0 t) (iblk m c 2 t) (iblk m c 3 t) (iblk m c 4 t)

/-- The row of least distances at point `t`. -/
abbrev leasts (t : Fin cfg0.N) : FVec Ideal S1x2048 .f32 :=
  k0_pay8 (F := Ideal) (iblk m c 0 t) (iblk m c 2 t) (iblk m c 3 t) (iblk m c 4 t)

/-- The accumulator of used codes after point `n`. -/
abbrev usedAfter (n : ℕ) (h : n < cfg0.N) : Vec Ideal S1024x1 .f32 := (outsAt0 m c n h).2.2.2.1

/-- The accumulator of least distances after point `n`. -/
abbrev sumAfter (n : ℕ) (h : n < cfg0.N) : Vec Ideal S1x1 .f32 := (outsAt0 m c n h).2.2.2.2

/-- Every point leaves its quantised tokens in its block of the first result. -/
theorem quantised_eq (t : Fin cfg0.N) : (outsAt0 m c t.val t.isLt).1
    = k0_pay10 (F := Ideal) (iblk m c 0 t) (iblk m c 1 t) (iblk m c 2 t) (iblk m c 3 t) (iblk m c 4 t) := by
  by_cases h0 : t.val % 16 = 0
  · rw [outsAt0_A m c t h0 (by omega)]; dsimp only; frame_out
  · by_cases h1 : t.val % 16 = 15
    · rw [outsAt0_C m c t h0 h1]; dsimp only; frame_out
    · rw [outsAt0_B m c t h0 h1]; dsimp only; frame_out

/-- The first point starts the accumulator of used codes from zeros. -/
theorem used_first (t : Fin cfg0.N) (h0 : t.val % 16 = 0) :
    usedAfter m c t.val t.isLt = k0_pay1 (F := Ideal) (indicators m c t) (k0_pay5 (F := Ideal)) := by
  rw [usedAfter, outsAt0_A m c t h0 (by omega)]; dsimp only; frame_out

/-- Every later point continues it. -/
theorem used_next (t : Fin cfg0.N) (h0 : ¬t.val % 16 = 0) (hb : t.val - 1 < cfg0.N) :
    usedAfter m c t.val t.isLt = k0_pay1 (F := Ideal) (indicators m c t) (usedAfter m c (t.val - 1) hb) := by
  by_cases h1 : t.val % 16 = 15
  · rw [usedAfter, outsAt0_C m c t h0 h1]; dsimp only; frame_out
    exact congrArg _ ((Memref.isWhole_whole cc0_scratch0).read_unread _)
  · rw [usedAfter, outsAt0_B m c t h0 h1]; dsimp only; frame_out
    exact congrArg _ ((Memref.isWhole_whole cc0_scratch0).read_unread _)

/-- A one by one array has one index. -/
theorem first_eq (h : 0 < S1x1.numel) : Shape.Idx.first h = ix2 (0 : Fin 1) (0 : Fin 1) := by
  funext a; fin_cases a <;> exact Subsingleton.elim (α := Fin 1) _ _

/-- The first point starts the accumulator of least distances from zero. -/
theorem sum_first (t : Fin cfg0.N) (h0 : t.val % 16 = 0) : sumAfter m c t.val t.isLt
    = fun _ => k0_pay2 (F := Ideal) (leasts m c t) (Ideal.ofBits .f32 0x00000000#32) := by
  rw [sumAfter, outsAt0_A m c t h0 (by omega)]; dsimp only; frame_out; rfl

/-- Every later point continues it. -/
theorem sum_next (t : Fin cfg0.N) (h0 : ¬t.val % 16 = 0) (hb : t.val - 1 < cfg0.N) : sumAfter m c t.val t.isLt
    = fun _ => k0_pay2 (F := Ideal) (leasts m c t) (sumAfter m c (t.val - 1) hb (ix2 0 0)) := by
  by_cases h1 : t.val % 16 = 15
  · rw [sumAfter, outsAt0_C m c t h0 h1]; dsimp only; frame_out
    rw [(Memref.isWhole_whole cc0_scratch1).read_unread, first_eq]; rfl
  · rw [sumAfter, outsAt0_B m c t h0 h1]; dsimp only; frame_out
    rw [(Memref.isWhole_whole cc0_scratch1).read_unread, first_eq]; rfl

/-- The last point leaves the loss of the accumulated sum. -/
theorem loss_last (t : Fin cfg0.N) (h1 : t.val % 16 = 15) : (outsAt0 m c t.val t.isLt).2.1
    = fun _ => k0_pay3 (F := Ideal) (sumAfter m c t.val t.isLt (ix2 0 0)) := by
  rw [sumAfter, outsAt0_C m c t (by omega) h1]; dsimp only; frame_out; rfl

/-- The last point leaves the number of used codes. -/
theorem count_last (t : Fin cfg0.N) (h1 : t.val % 16 = 15) : (outsAt0 m c t.val t.isLt).2.2.1
    = fun _ => Scalar.fptosi 32 (k0_pay4 (F := Ideal) (usedAfter m c t.val t.isLt)) := by
  rw [usedAfter, outsAt0_C m c t (by omega) h1]; dsimp only; frame_out; rfl

end Cert.Proof.Points

end
-- ==== Proof.Arrays.lean ====
/-
  The kernel's three result arrays after the run, when the arguments hold real numbers: the quantised tokens, the loss and
  the number of codes used. The two accumulators are read by induction on the grid point.
-/
module

public import proofs.«01_k».proof.Proof.Inputs
public import proofs.«01_k».proof.Proof.Points

@[expose] public section

set_option maxRecDepth 16384

noncomputable section

namespace Cert.Proof.Arrays

open Idealize.ShloMosaic Idealize.ShloMosaic.TcCoe Idealize.SL.Sem Cert.KernelIdeal Cert.KernelIdeal.Gen
open Cert.Proof.Spec Cert.Proof.Points

variable (m : (ℓ : Loc nD τ sig) → Buf (Elt Ideal) ℓ) (c : Dev nD)

/-- The first argument, as launched. -/
abbrev argZ : FVec Ideal S4x64x8x32x32 .f32 := m ((c : Thread nD τ).loc main_arg0)

/-- The codebook, as launched. -/
abbrev argW : FVec Ideal S1024x64 .f32 := m ((c : Thread nD τ).loc main_arg1)

/-- The sum of the least distances of the tokens of point `s`. -/
def part (z : FVec Ideal S4x64x8x32x32 .f32) (w : FVec Ideal S1024x64 .f32) (s : ℕ) : ℝ :=
  ∑ j : Fin 2048, leastAt z w (2048 * s + j)

/-- The accumulator of least distances after point `n`: the sum over the tokens of all points up to `n`. -/
theorem sum_eq (hz : Real (argZ m c)) (hw : Real (argW m c)) (n : ℕ) (h : n < cfg0.N) (i : S1x1.Idx) :
    sumAfter m c n h i = ((∑ s ∈ Finset.range (n + 1), part (argZ m c) (argW m c) s : ℝ) : EReal) := by
  induction n generalizing i with
  | zero =>
    refine (congrFun (sum_first m c ⟨0, h⟩ rfl) i).trans ?_
    rw [Ideal.ofBits_zero_f32, ← EReal.coe_zero, Block.total_at (Inputs.holds m c hz hw ⟨0, h⟩), Finset.sum_range_one,
      zero_add]
    rfl
  | succ n ih =>
    have hN : n + 1 < 16 := lt_of_lt_of_eq h N_0
    refine (congrFun (sum_next m c ⟨n + 1, h⟩ (by dsimp only; omega) (Nat.lt_of_succ_lt h)) i).trans ?_
    refine (congrArg (k0_pay2 (F := Ideal) (leasts m c ⟨n + 1, h⟩)) (ih (Nat.lt_of_succ_lt h) (ix2 0 0))).trans ?_
    rw [Block.total_at (Inputs.holds m c hz hw ⟨n + 1, h⟩), Finset.sum_range_succ _ (n + 1)]
    rfl

open Classical in
/-- The accumulator of used codes after point `n`: one at the codes chosen for a token of a point up to `n`, else zero. -/
theorem used_eq (hz : Real (argZ m c)) (hw : Real (argW m c)) (n : ℕ) (h : n < cfg0.N) (k : Fin 1024) :
    usedAfter m c n h (ix2 k 0)
      = if ∃ s ≤ n, ∃ j : Fin 2048, k = codeAt (argZ m c) (argW m c) (2048 * s + j) then 1 else 0 := by
  induction n generalizing k with
  | zero =>
    refine (congrFun (used_first m c ⟨0, h⟩ rfl) (ix2 k 0)).trans ?_
    rw [Block.used_at _ (fun _ => False) (fun l => by pointwise [k0_pay5])
      (Inputs.holds m c hz hw ⟨0, h⟩)]
    simp only [false_or, Nat.le_zero, exists_eq_left]
    rfl
  | succ n ih =>
    have hN : n + 1 < 16 := lt_of_lt_of_eq h N_0
    refine (congrFun (used_next m c ⟨n + 1, h⟩ (by dsimp only; omega) (Nat.lt_of_succ_lt h)) (ix2 k 0)).trans ?_
    refine (Block.used_at (usedAfter m c n (Nat.lt_of_succ_lt h)) _ (fun l => ih (Nat.lt_of_succ_lt h) l)
      (Inputs.holds m c hz hw ⟨n + 1, h⟩) k).trans ?_
    refine if_congr ⟨?_, ?_⟩ rfl rfl
    · rintro (⟨s, hs, j, e⟩ | ⟨j, e⟩)
      · exact ⟨s, Nat.le_succ_of_le hs, j, e⟩
      · exact ⟨n + 1, le_rfl, j, e⟩
    · rintro ⟨s, hs, j, e⟩
      rcases Nat.le_succ_iff.1 hs with hs | rfl
      · exact .inl ⟨s, hs, j, e⟩
      · exact .inr ⟨j, e⟩

/-- The parts of the sixteen points make the total. -/
theorem sum_parts (z : FVec Ideal S4x64x8x32x32 .f32) (w : FVec Ideal S1024x64 .f32) :
    ∑ s ∈ Finset.range 16, part z w s = total z w := by
  rw [Finset.sum_range]
  simp only [part, mul_comm 2048]
  exact Fin.sum_univ_univ_mul_add 16 2048 (leastAt z w)

/-- The codes used by the tokens of the sixteen points are the codes used. -/
theorem exists_points (z : FVec Ideal S4x64x8x32x32 .f32) (w : FVec Ideal S1024x64 .f32) (k : Fin 1024) :
    (∃ s ≤ 15, ∃ j : Fin 2048, k = codeAt z w (2048 * s + j)) ↔ ∃ n : Fin 32768, k = codeAt z w n := by
  constructor
  · rintro ⟨s, hs, j, e⟩
    exact ⟨⟨2048 * s + j, by omega⟩, e⟩
  · rintro ⟨n, e⟩
    refine ⟨n / 2048, by omega, ⟨n % 2048, Nat.mod_lt _ (by decide)⟩, ?_⟩
    rw [e]; congr 1; dsimp only; omega

/-- The first result after the run. -/
theorem final_quantised (hz : Real (argZ m c)) (hw : Real (argW m c)) :
    (dats m 0 c).arrAt 5 cfg0.N = quantised (argZ m c) (argW m c) := by
  refine (dats m 0 c).arrAt_eq_of_covers 5 _ (by decide +kernel) fun t _ y => ?_
  blk_simp
  rw [after0_5, quantised_eq, Block.quantised_fun (Inputs.holds m c hz hw t)]
  dsimp only [quantised]
  blk_simp [Inputs.idx t]
  refine congrArg (fun r : ℝ => (r : EReal)) (congr (congrArg (book _) ?_) ?_)
  · exact congrArg (codeAt (argZ m c) (argW m c)) (by omega)
  · refine Fin.ext ?_
    blk_simp [Inputs.idx t]

/-- The second result after the run. -/
theorem final_loss (hz : Real (argZ m c)) (hw : Real (argW m c)) :
    (dats m 0 c).arrAt 6 cfg0.N = loss (argZ m c) (argW m c) := by
  refine (dats m 0 c).arrAt_eq_of_after_last 6 t0_15 (by decide +kernel) _ fun j => ?_
  blk_simp
  rw [after0_6, loss_last m c t0_15 (by decide +kernel)]
  refine (Block.loss_at _).trans ?_
  rw [sum_eq m c hz hw]
  exact congrArg (fun a : ℝ => lossOf (a : EReal)) (sum_parts _ _)

/-- The third result after the run. -/
theorem final_used (hz : Real (argZ m c)) (hw : Real (argW m c)) :
    (dats m 0 c).arrAt 7 cfg0.N = usedCount (argZ m c) (argW m c) := by
  refine (dats m 0 c).arrAt_eq_of_after_last 7 t0_15 (by decide +kernel) _ fun j => ?_
  blk_simp
  rw [after0_7, count_last m c t0_15 (by decide +kernel)]
  refine (Block.count_at _ _ (used_eq m c hz hw _ _)).trans ?_
  refine congrArg (fun S : Finset (Fin 1024) => BitVec.ofNat 32 S.card) ?_
  exact Finset.filter_congr fun k _ => exists_points _ _ k

end Cert.Proof.Arrays

end
-- ==== Proof.Finite.lean ====
/-
  The precondition: where every entry of the two arguments is finite, they are arrays of real numbers.
-/
module

public import proofs.«01_k».proof.Proof.Gen.Pre_finite
public import proofs.«01_k».proof.Proof.Tokens

@[expose] public section

noncomputable section

namespace Cert.Proof

open Idealize.ShloMosaic Cert.Proof.Spec

/-- An extended real whose absolute value is below positive infinity is a real number. -/
theorem real_of_abs_lt (a : EReal) (h : Ideal.cmp .olt (max a (-a)) (Ideal.ofBits .f32 0x7F800000#32) = 1#1) :
    a ≠ ⊤ ∧ a ≠ ⊥ := by
  rw [ofBits_inf] at h
  constructor <;> rintro rfl <;> simp [Ideal.cmp] at h

/-- Where the first answer of the precondition is all ones the input is real. -/
theorem real_input {z : FVec Ideal Cert.KernelIdeal.S4x64x8x32x32 .f32} {w : FVec Ideal Cert.KernelIdeal.S1024x64 .f32}
    (h : (Cert.Pre_finite.fn (F := Ideal) z w).1 = fun _ => 1#1) : Real z :=
  fun i => real_of_abs_lt (z i) (congrFun h i)

/-- Where the second answer of the precondition is all ones the codebook is real. -/
theorem real_book {z : FVec Ideal Cert.KernelIdeal.S4x64x8x32x32 .f32} {w : FVec Ideal Cert.KernelIdeal.S1024x64 .f32}
    (h : (Cert.Pre_finite.fn (F := Ideal) z w).2 = fun _ => 1#1) : Real w :=
  fun i => real_of_abs_lt (w i) (congrFun h i)

end Cert.Proof

end
-- ==== Proof.RefArgmin.lean ====
/-
  The codes the reference chooses: its row-wise argmin of the distances is the first nearest code of each token.
-/
module

public import proofs.«01_k».proof.Proof.RefTerms
public import proofs.«01_k».proof.Proof.Tokens

@[expose] public section

set_option maxRecDepth 16384

noncomputable section

namespace Cert.Proof.Ref

open Cert.ReferenceIdeal Cert.ReferenceIdeal.Gen Cert.Proof.Spec
open Idealize.ShloMosaic

/-- The word of a code reads back signed as its number. -/
theorem toInt_code (k : Fin 1024) : (BitVec.ofNat 32 k).toInt = (k : ℤ) := by
  have := k.isLt
  rw [BitVec.toInt_eq_toNat_of_lt (by rw [BitVec.toNat_ofNat]; omega), BitVec.toNat_ofNat]; omega

/-- The pair `a` is at least as near as `b`: its distance is less, or the same at an index not above. -/
def Before (a b : EReal × BitVec 32) : Prop := a.1 < b.1 ∨ a.1 = b.1 ∧ a.2.toInt ≤ b.2.toInt

theorem Before.refl (a : EReal × BitVec 32) : Before a a := .inr ⟨rfl, le_rfl⟩

theorem Before.trans {a b c : EReal × BitVec 32} (h : Before a b) (h' : Before b c) : Before a c := by
  rcases h with h | ⟨h, i⟩ <;> rcases h' with h' | ⟨h', i'⟩
  · exact .inl (h.trans h')
  · exact .inl (h' ▸ h)
  · exact .inl (h ▸ h')
  · exact .inr ⟨h.trans h', i.trans i'⟩

/-- One step of the argmin keeps one of the two pairs, and the one it keeps is at least as near as both. -/
theorem reducer_step (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, k⟩ := a
  obtain ⟨y, l⟩ := b
  rcases lt_trichotomy x y with h | h | h
  · have e : reducer_argmin_f32_i32 (F := Ideal) (x, k) (y, l) = (x, k) := by
      simp [reducer_argmin_f32_i32, Scalar.select, Ideal.cmpf_def, Ideal.cmp, IntOp.ori, IntOp.andi, IntOp.cmpi, h, h.ne]
    rw [e]
    exact ⟨.inl rfl, Before.refl _, .inl h⟩
  · subst h
    by_cases hk : k.toInt < l.toInt
    · have e : reducer_argmin_f32_i32 (F := Ideal) (x, k) (x, l) = (x, k) := by
        simp [reducer_argmin_f32_i32, Scalar.select, Ideal.cmpf_def, Ideal.cmp, IntOp.ori, IntOp.andi, IntOp.cmpi,
          BitVec.slt, hk]
      rw [e]
      exact ⟨.inl rfl, Before.refl _, .inr ⟨rfl, hk.le⟩⟩
    · have e : reducer_argmin_f32_i32 (F := Ideal) (x, k) (x, l) = (x, l) := by
        simp [reducer_argmin_f32_i32, Scalar.select, Ideal.cmpf_def, Ideal.cmp, IntOp.ori, IntOp.andi, IntOp.cmpi,
          BitVec.slt, hk]
      rw [e]
      exact ⟨.inr rfl, .inr ⟨rfl, not_lt.1 hk⟩, Before.refl _⟩
  · have e : reducer_argmin_f32_i32 (F := Ideal) (x, k) (y, l) = (y, l) := by
      simp [reducer_argmin_f32_i32, Scalar.select, Ideal.cmpf_def, Ideal.cmp, IntOp.ori, IntOp.andi, IntOp.cmpi,
        h.not_gt, h.ne']
    rw [e]
    exact ⟨.inr rfl, .inl h, Before.refl _⟩

/-- The argmin of a list of pairs is the initial pair or one of the list, and is at least as near as all of them. -/
theorem foldl_reducer (L : List (EReal × BitVec 32)) (a : EReal × BitVec 32) :
    (L.foldl (reducer_argmin_f32_i32 (F := Ideal)) a = a ∨ L.foldl (reducer_argmin_f32_i32 (F := Ideal)) a ∈ L)
      ∧ Before (L.foldl (reducer_argmin_f32_i32 (F := Ideal)) a) a
      ∧ ∀ p ∈ L, Before (L.foldl (reducer_argmin_f32_i32 (F := Ideal)) a) p := by
  induction L generalizing a with
  | nil => exact ⟨.inl rfl, Before.refl _, fun p hp => absurd hp List.not_mem_nil⟩
  | cons b L ih =>
    obtain ⟨h1, h2, h3⟩ := ih (reducer_argmin_f32_i32 (F := Ideal) a b)
    obtain ⟨s1, s2, s3⟩ := reducer_step a b
    rw [List.foldl_cons]
    refine ⟨?_, h2.trans s2, fun p hp => ?_⟩
    · rcases h1 with h1 | h1
      · rcases s1 with s1 | s1
        · exact .inl (h1.trans s1)
        · exact .inr (List.mem_cons.2 (.inl (h1.trans s1)))
      · exact .inr (List.mem_cons_of_mem _ h1)
    · rcases List.mem_cons.1 hp with rfl | hp
      · exact h2.trans s3
      · exact h3 p hp

/-- The argmin from positive infinity of a list that holds each code with its real distance, and nothing else, is the
    first nearest code. -/
theorem foldl_codes (d : Fin 1024 → ℝ) (L : List (EReal × BitVec 32))
    (h : ∀ p ∈ L, ∃ k : Fin 1024, p = ((d k : EReal), BitVec.ofNat 32 k))
    (h' : ∀ k : Fin 1024, ((d k : EReal), BitVec.ofNat 32 k) ∈ L) :
    (L.foldl (reducer_argmin_f32_i32 (F := Ideal)) ((⊤ : EReal), 0#32)).2 = BitVec.ofNat 32 (nearest d) := by
  obtain ⟨h1, -, h3⟩ := foldl_reducer L ((⊤ : EReal), 0#32)
  generalize L.foldl (reducer_argmin_f32_i32 (F := Ideal)) ((⊤ : EReal), 0#32) = r at h1 h3
  rcases h1 with rfl | h1
  · rcases h3 _ (h' 0) with h0 | ⟨h0, -⟩
    · exact absurd h0 not_top_lt
    · exact absurd h0.symm (EReal.coe_ne_top _)
  · obtain ⟨k, rfl⟩ := h _ h1
    refine congrArg (fun j : Fin 1024 => BitVec.ofNat 32 j) (eq_nearest d k (fun l => ?_) fun l hl => ?_)
    · rcases h3 _ (h' l) with h0 | ⟨h0, -⟩
      · exact (EReal.coe_lt_coe_iff.1 h0).le
      · exact (EReal.coe_eq_coe_iff.1 h0).le
    · rcases h3 _ (h' l) with h0 | ⟨-, h0⟩
      · exact EReal.coe_lt_coe_iff.1 h0
      · rw [toInt_code, toInt_code] at h0
        exact absurd (Fin.lt_def.1 hl) (by omega)

/-- Where the indices that `h` drops to `j` are those of the codes, with real distances and the codes' numbers, the argmin
    at `j` is the first nearest code. -/
theorem argReduce_codes {s t u : Shape} {axes : List (Fin s.rank)} (h : s.ReducesTo axes t) (hu : 0 < u.numel)
    (x : FVec Ideal s .f32) (y : s.Idx → BitVec 32) (ix : FVec Ideal u .f32) (iy : u.Idx → BitVec 32) (j : t.Idx)
    (d : Fin 1024 → ℝ) (hix : ix (Shape.Idx.first hu) = (⊤ : EReal)) (hiy : iy (Shape.Idx.first hu) = 0#32)
    (hk : ∀ i, h.drop i = j → ∃ k : Fin 1024, x i = ((d k : ℝ) : EReal) ∧ y i = BitVec.ofNat 32 k)
    (hi : ∀ k : Fin 1024, ∃ i, h.drop i = j ∧ x i = ((d k : ℝ) : EReal) ∧ y i = BitVec.ofNat 32 k) :
    (Host.argReduce (reducer_argmin_f32_i32 (F := Ideal)) x y ix iy h hu j).2 = BitVec.ofNat 32 (nearest d) := by
  rw [Ideal.argReduce_eq_reduce2, Host.reduce2_eq_foldl_fiber, hix, hiy]
  refine foldl_codes d _ (fun p hp => ?_) fun k => ?_
  · obtain ⟨n, hn, rfl⟩ := List.mem_map.1 hp
    obtain ⟨k, h1, h2⟩ := hk _ (of_decide_eq_true (List.mem_filter.1 hn).2)
    exact ⟨k, Prod.ext h1 h2⟩
  · obtain ⟨i, h0, h1, h2⟩ := hi k
    refine List.mem_map.2 ⟨s.rowMajor i, List.mem_filter.2 ⟨List.mem_finRange _, ?_⟩, ?_⟩
    · rw [Equiv.symm_apply_apply]; exact decide_eq_true h0
    · rw [Equiv.symm_apply_apply]; exact Prod.ext h1 h2

/-- Dropping the code from the place of a token and a code leaves the token. -/
theorem drop_code (i : S32768x1024.Idx) : reducesTo_S32768x1024_S32768_d1.drop i = ix1 (n0 := 32768) (i 0) := by
  funext b
  match b with
  | ⟨0, _⟩ => exact Fin.ext (reducesTo_S32768x1024_S32768_d1.drop_apply_val_of_eq i 0 0)

/-- The codes, as the second component of the argmin. -/
theorem codeOf_eq (x : FVec Ideal S32768x1024 .f32) : codeOf x = fun j =>
    (Host.argReduce (reducer_argmin_f32_i32 (F := Ideal)) x (iotaInDim S32768x1024 32 1) (constant S_ .f32 0x7F800000#32)
      (constantI S_ 32 0#32) reducesTo_S32768x1024_S32768_d1 h_S_ j).2 := rfl

/-- Where the distances of the token `n` are real, the reference's code of `n` is the first nearest one. -/
theorem codeOf_at (x : FVec Ideal S32768x1024 .f32) (n : Fin 32768) (d : Fin 1024 → ℝ)
    (h : ∀ k, x (ix2 n k) = ((d k : ℝ) : EReal)) : codeOf x (ix1 n) = BitVec.ofNat 32 (nearest d) := by
  refine (congrFun (codeOf_eq x) (ix1 n)).trans ?_
  refine argReduce_codes reducesTo_S32768x1024_S32768_d1 h_S_ x (iotaInDim S32768x1024 32 1)
    (constant S_ .f32 0x7F800000#32) (constantI S_ 32 0#32) (ix1 n) d ofBits_inf rfl (fun i hi => ?_) fun k => ?_
  · obtain ⟨n', k, rfl⟩ : ∃ (n' : Fin 32768) (k : Fin 1024), i = ix2 n' k := ⟨_, _, eq_ix2 i⟩
    rw [drop_code] at hi
    obtain rfl : n' = n := congrFun hi 0
    exact ⟨k, h k, rfl⟩
  · exact ⟨ix2 n k, drop_code _, h k, rfl⟩

variable {z : FVec Ideal S4x64x8x32x32 .f32} {w : FVec Ideal S1024x64 .f32}

/-- The tokens. -/
theorem tokens_at (hz : Real z) (n : Fin 32768) (c : Fin 64) :
    tokens z (ix2 n c) = ((token z n c : ℝ) : EReal) := by
  pointwise [tokens, moved]
  rw [hz.coe]
  refine congrArg (fun i => ((EReal.toReal (z i) : ℝ) : EReal)) ?_
  have hn := n.isLt
  refine (ix5_inj ..).2 ⟨Fin.ext ?_, rfl, rfl, rfl, rfl⟩
  show n.val / 8192 = n.val / 8192 % 4
  omega

/-- The codebook. -/
theorem book_at (hw : Real w) (k : Fin 1024) (c : Fin 64) : w (ix2 k c) = ((book w k c : ℝ) : EReal) := hw.coe _

/-- The distances are the squared distances of the tokens to the codes. -/
theorem distOf_at (hz : Real z) (hw : Real w) (n : Fin 32768) (k : Fin 1024) :
    distOf (tokens z) w (ix2 n k) = ((dist (token z n) (book w) k : ℝ) : EReal) := by
  pointwise [distOf]
  simp only [tokens_at hz, book_at hw, ofBits_two, ← EReal.coe_mul, ← coe_sum, ← EReal.coe_sub, ← EReal.coe_add]
  refine congrArg (fun r : ℝ => (r : EReal)) ?_
  rw [dist_expanded, Finset.mul_sum]
  exact congrArg (fun r : ℝ => _ - r + _) (Finset.sum_congr rfl fun c _ => by ring)

/-- The code of the token `n`. -/
theorem codes_at (hz : Real z) (hw : Real w) (n : Fin 32768) :
    codes z w (ix1 n) = BitVec.ofNat 32 (codeAt z w n) :=
  codeOf_at _ n _ (distOf_at hz hw n)

end Cert.Proof.Ref

end
-- ==== Proof.RefValue.lean ====
/-
  The reference's quantised output and loss: the rows of the codebook it looks up are the tokens' nearest codes.
-/
module

public import proofs.«01_k».proof.Proof.RefArgmin
public import Idealize.ShloMosaic.Lib.Routing.OpsPair
public import Idealize.ShloMosaic.Lib.Routing.Ops

@[expose] public section

set_option maxRecDepth 16384

noncomputable section

namespace Cert.Proof.Ref

open Cert.ReferenceIdeal Cert.ReferenceIdeal.Gen Cert.Proof.Spec
open Idealize.ShloMosaic

variable {k : IVec S32768 32} {n : Fin 32768} {e : Fin 1024}

/-- An index that is a code is not below zero. -/
theorem wrapped_at (h : k (ix1 n) = BitVec.ofNat 32 e) : wrapped k (ix1 n) = BitVec.ofNat 32 e := by
  have := e.isLt
  pointwise [wrapped]
  rw [h]
  refine Routing.wrap_of_lt _ _ ?_
  rw [BitVec.toNat_ofNat]; omega

/-- Clipping leaves an index that is a code. -/
theorem clipped_at (h : k (ix1 n) = BitVec.ofNat 32 e) : clipped k (ix1 n) = BitVec.ofNat 32 e := by
  pointwise [clipped]
  rw [h]
  apply BitVec.eq_of_toInt_eq
  rw [SortNet.toInt_maxsi, toInt_code]
  simp

/-- The column of the indices holds the code. -/
theorem column_at (h : k (ix1 n) = BitVec.ofNat 32 e) : column k (ix2 n 0) = BitVec.ofNat 32 e := by
  pointwise [column]
  exact wrapped_at h

/-- An index that is a code lies in the codebook. -/
theorem inside_at (h : k (ix1 n) = BitVec.ofNat 32 e) : inside (column k) (ix1 n) = 1#1 := by
  have := e.isLt
  pointwise [inside]
  have u : (Finset.univ : Finset (Fin 1)) = {0} := rfl
  rw [u, Finset.fold_singleton, column_at h]
  have h0 : IntOp.cmpi .sge (BitVec.ofNat 32 e) 0#32 = 1#1 := by
    simp [IntOp.cmpi, BitVec.sle, toInt_code]
  have h1 : IntOp.cmpi .sle (BitVec.ofNat 32 e) 1023#32 = 1#1 := by
    simp only [IntOp.cmpi, BitVec.sle, toInt_code, show (1023#32).toInt = 1023 by decide]
    rw [decide_eq_true (by omega)]; rfl
  rw [h0, h1]; rfl

/-- The row looked up at an index that is a code is the row of the code. -/
theorem takeOf_at (w : FVec Ideal S1024x64 .f32) (h : k (ix1 n) = BitVec.ofNat 32 e) (c : Fin 64) :
    takeOf w k (ix2 n c) = w (ix2 e c) := by
  pointwise [takeOf]
  rw [inside_at h]
  exact Routing.gather_row gather_S1024x64_S32768x1_S32768x64_1_0_n_n_0_1_164 rfl rfl rfl rfl rfl w (column k) n c e
    (column_at h) (by decide)

variable {z : FVec Ideal S4x64x8x32x32 .f32} {w : FVec Ideal S1024x64 .f32}

/-- The row looked up for the token `n` is its code. -/
theorem takeOf_codes (hz : Real z) (hw : Real w) (n : Fin 32768) (c : Fin 64) :
    takeOf w (codes z w) (ix2 n c) = ((book w (codeAt z w n) c : ℝ) : EReal) :=
  (takeOf_at w (codes_at hz hw n) c).trans (book_at hw _ c)

/-- The moved input is the tokens in their places. -/
theorem moved_eq (z : FVec Ideal S4x64x8x32x32 .f32) : moved z = laid (tokens z) :=
  (shapeCast_shapeCast (moved z) shapeCasts_S4x8x32x32x64_S32768x64 shapeCasts_S32768x64_S4x8x32x32x64).symm

/-- The reference's first result. -/
theorem outOf_eq (hz : Real z) (hw : Real w) : outOf (chosen z w) (moved z) = quantised z w := by
  funext i
  obtain ⟨b, c, s, rfl⟩ : ∃ (b : Fin 4) (c : Fin 64) (s : Fin 8192), i = ix3 b c s := ⟨_, _, _, eq_ix3 i⟩
  rw [moved_eq]
  pointwise [outOf, chosen, laid]
  simp only [takeOf_codes hz hw, tokens_at hz]
  rw [← EReal.coe_sub, ← EReal.coe_add, add_sub_cancel]
  refine congrArg (fun m => ((book w (codeAt z w m) c : ℝ) : EReal)) ?_
  show _ = 8192 * b.val + s.val
  have := b.isLt
  have := s.isLt
  omega

/-- A sum over the places of the moved input is the sum over the tokens and channels. -/
theorem sum_laid (f : FVec Ideal S32768x64 .f32) : ∑ i, laid f i = ∑ n : Fin 32768, ∑ c : Fin 64, f (ix2 n c) := by
  rw [← sum_idx2]
  exact Equiv.sum_comp (Shape.reshapeEquiv shapeCasts_S32768x64_S4x8x32x32x64) f

/-- The squared differences add up to the squared distances of the tokens to their codes. -/
theorem sum_squares (hz : Real z) (hw : Real w) :
    ∑ i, mulf (subf (chosen z w) (moved z)) (subf (chosen z w) (moved z)) i = ((total z w : ℝ) : EReal) := by
  rw [moved_eq]
  refine (sum_laid (mulf (subf (takeOf w (codes z w)) (tokens z)) (subf (takeOf w (codes z w)) (tokens z)))).trans ?_
  rw [total, coe_sum]
  refine Finset.sum_congr rfl fun n _ => ?_
  rw [leastAt, Spec.dist, coe_sum]
  refine Finset.sum_congr rfl fun c _ => ?_
  pointwise
  rw [takeOf_codes hz hw, tokens_at hz, ← EReal.coe_sub, ← EReal.coe_mul]

/-- The reference's second result. -/
theorem lossOf_eq (hz : Real z) (hw : Real w) : Ref.lossOf (chosen z w) (moved z) = loss z w := by
  funext i
  obtain ⟨a, b, rfl⟩ : ∃ a b : Fin 1, i = ix2 a b := ⟨_, _, eq_ix2 i⟩
  have hs := (Ideal.hostReduceAdd_total reducesTo_S4x8x32x32x64_S_d0_1_2_3_4 (fun b => b.elim0)
    (mulf (subf (chosen z w) (moved z)) (subf (chosen z w) (moved z))) 0 ix0).trans
    ((zero_add _).trans (sum_squares hz hw))
  pointwise [Ref.lossOf, meanSq]
  rw [hs]
  rfl

end Cert.Proof.Ref

end
-- ==== Proof.RefCount.lean ====
/-
  The reference's number of codes used: its histogram is above zero exactly at the codes chosen for some token.
-/
module

public import proofs.«01_k».proof.Proof.RefValue
public import Idealize.ShloMosaic.Lib.IndicatorCount

@[expose] public section

set_option maxRecDepth 16384

noncomputable section

namespace Cert.Proof.Ref

open Cert.ReferenceIdeal Cert.ReferenceIdeal.Gen Cert.Proof.Spec
open Idealize.ShloMosaic

/-- Adding one for each member of a list that has the property `p` adds their number. -/
theorem foldl_ones {ι : Type} (p : ι → Prop) [DecidablePred p] (L : List ι) (a : ℕ) :
    L.foldl (fun r n => if p n then IntOp.addi r 1#32 else r) (BitVec.ofNat 32 a)
      = BitVec.ofNat 32 (a + L.countP fun n => p n) := by
  induction L generalizing a with
  | nil => rfl
  | cons n L ih =>
    rw [List.foldl_cons, List.countP_cons]
    by_cases h : p n
    · have e : IntOp.addi (BitVec.ofNat 32 a) 1#32 = BitVec.ofNat 32 (a + 1) := (BitVec.ofNat_add a 1).symm
      rw [if_pos h, e, ih]
      exact congrArg (BitVec.ofNat 32) (by simp [h]; omega)
    · rw [if_neg h, ih]
      exact congrArg (BitVec.ofNat 32) (by simp [h])

/-- A scatter of fewer than 2³¹ ones by addition, onto zeros, is above zero at `i` exactly when some update lands there. -/
theorem scatter_pos {s si u : Shape} {v : ℕ} (d : ScatterDims s si u) (x : IVec s 32) (idx : IVec si v) (upd : IVec u 32)
    (i : s.Idx) (hu : u.numel < 2 ^ 31) (hx : x i = 0#32) (hupd : ∀ j, upd j = 1#32) :
    IntOp.cmpi .sgt (Host.scatter d IntOp.addi x idx upd i) 0#32 = 1#1 ↔ ∃ j, d.resultIdx? j idx = some i := by
  classical
  rw [Routing.scatter_at, hx]
  simp only [hupd]
  rw [foldl_ones (fun n => d.resultIdx? (u.rowMajor.symm n) idx = some i) _ 0, Nat.zero_add]
  have hle := List.countP_le_length (p := fun n => decide (d.resultIdx? (u.rowMajor.symm n) idx = some i))
    (l := List.finRange u.numel)
  rw [List.length_finRange] at hle
  have hpos : 0 < (List.finRange u.numel).countP (fun n => decide (d.resultIdx? (u.rowMajor.symm n) idx = some i))
      ↔ ∃ j, d.resultIdx? j idx = some i := by
    rw [List.countP_pos_iff]
    constructor
    · rintro ⟨n, -, hn⟩
      exact ⟨_, of_decide_eq_true hn⟩
    · rintro ⟨j, hj⟩
      exact ⟨u.rowMajor j, List.mem_finRange _, decide_eq_true (by rw [Equiv.symm_apply_apply]; exact hj)⟩
  rw [← hpos]
  generalize (List.finRange u.numel).countP (fun n => decide (d.resultIdx? (u.rowMajor.symm n) idx = some i)) = m at hle
  simp only [IntOp.cmpi, BitVec.slt]
  rw [StableHlo.Predicate.toInt_ofNat_small m (by omega)]
  by_cases h : 0 < m
  · simp [h]
  · simp [h]

/-- The update of the token `n` lands at the code `i` exactly when the index word of `n`, read signed, is `i`. -/
theorem lands (idx : IVec S32768x1 32) (n : Fin 32768) (i : Fin 1024) :
    scatter_S1024_S32768x1_S32768_n_0_0_1.resultIdx? (ix1 n) idx = some (ix1 i)
      ↔ (idx (ix2 n 0)).toInt = (i.val : ℤ) := by
  refine (Routing.resultIdx?_ix1 (N := 1024) scatter_S1024_S32768x1_S32768_n_0_0_1 (ix1 n) idx i).trans ?_
  have hwin : scatter_S1024_S32768x1_S32768_n_0_0_1.window (ix1 n) 0 = 0 := rfl
  have hstart : scatter_S1024_S32768x1_S32768_n_0_0_1.start (ix1 n) idx 0 = (idx (ix2 n 0)).toInt := by
    unfold ScatterDims.start
    rw [dif_pos (show (0 : Fin S1024.rank) ∈ scatter_S1024_S32768x1_S32768_n_0_0_1.scatterDimsToOperandDims from
      List.mem_singleton.2 rfl)]
    refine congrArg (fun j => (idx j).toInt) (funext fun b => ?_)
    match b with
    | ⟨0, _⟩ => rfl
    | ⟨1, _⟩ => rfl
  rw [hwin, hstart, Nat.cast_zero, add_zero]

variable {z : FVec Ideal S4x64x8x32x32 .f32} {w : FVec Ideal S1024x64 .f32}

/-- The histogram is above zero exactly at the codes chosen for some token. -/
theorem histogram_pos (hz : Real z) (hw : Real w) (i : Fin 1024) :
    IntOp.cmpi .sgt (histogram (codes z w) (ix1 i)) 0#32 = 1#1 ↔ ∃ n : Fin 32768, i = codeAt z w n := by
  have at_n (n : Fin 32768) : broadcastInDim S32768x1 ![0] bcast_S32768_S32768x1_0 (wrapped (clipped (codes z w))) (ix2 n 0)
      = BitVec.ofNat 32 (codeAt z w n) := by
    pointwise
    exact wrapped_at (clipped_at (codes_at hz hw n))
  refine (scatter_pos scatter_S1024_S32768x1_S32768_n_0_0_1 _ _ _ (ix1 i)
    (by rw [Shape.numel_rank1]; decide) rfl fun _ => rfl).trans ⟨?_, ?_⟩
  · rintro ⟨j, hj⟩
    obtain ⟨n, rfl⟩ : ∃ n : Fin 32768, j = ix1 n := ⟨_, eq_ix1 j⟩
    rw [lands, at_n, toInt_code] at hj
    exact ⟨n, Fin.ext (by exact_mod_cast hj.symm)⟩
  · rintro ⟨n, hn⟩
    exact ⟨ix1 n, by rw [lands, at_n, toInt_code, hn]⟩

/-- The reference's third result. -/
theorem uniqueOf_eq (hz : Real z) (hw : Real w) :
    shapeCast S1x1 (uniqueOf (codes z w)) shapeCasts_S_S1x1 = usedCount z w := by
  classical
  funext i
  obtain ⟨a, b, rfl⟩ : ∃ a b : Fin 1, i = ix2 a b := ⟨_, _, eq_ix2 i⟩
  pointwise [uniqueOf]
  refine (IndicatorCount.fold_addi_setWidth_eq_card _ _).trans ?_
  refine congrArg (fun S : Finset (Fin 1024) => BitVec.ofNat 32 S.card) ?_
  exact Finset.filter_congr fun i _ => histogram_pos hz hw i

end Cert.Proof.Ref

end
-- ==== Proof.Equation.lean ====
/-
  The equation: on finite arguments the kernel's three results and the reference's are the same.
-/
module

public import proofs.«01_k».proof.Defs
public import proofs.«01_k».proof.Proof.Arrays
public import proofs.«01_k».proof.Proof.Finite
public import proofs.«01_k».proof.Proof.RefCount
public import proofs.«01_k».proof.Proof.RefRun

@[expose] public section

noncomputable section

namespace Cert.Proof

open Idealize.ShloMosaic Idealize.SL.Sem Cert.Proof.Spec

/-- From finite arguments both programs end with the quantised tokens, the loss and the number of codes used. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' pre same
  have hz (c) : Real (Arrays.argZ m c) := real_input (pre c).1
  have hw (c) : Real (Arrays.argW m c) := real_book (pre c).2
  refine ⟨fun c => quantised (Arrays.argZ m c) (Arrays.argW m c), fun c => loss (Arrays.argZ m c) (Arrays.argW m c),
    fun c => usedCount (Arrays.argZ m c) (Arrays.argW m c), ?_, ?_⟩
  · refine (θ_run _ _ _).mono (fun r h c => ?_) (Cert.KernelIdeal.Value.run_blocks m g)
    obtain ⟨h0, h1, h2, hk⟩ := h c
    exact ⟨h0.trans (Arrays.final_quantised m c (hz c) (hw c)), h1.trans (Arrays.final_loss m c (hz c) (hw c)),
      h2.trans (Arrays.final_used m c (hz c) (hw c)), hk⟩
  · refine (θ_run _ _ _).mono (fun r h c => ?_) (Ref.run_main m' g')
    obtain ⟨h0, h1, h2, hk⟩ := h c
    rw [(same c).1, (same c).2] at h0 h1 h2
    exact ⟨h0.trans (Ref.outOf_eq (hz c) (hw c)), h1.trans (Ref.lossOf_eq (hz c) (hw c)),
      h2.trans (Ref.uniqueOf_eq (hz c) (hw c)), hk⟩

end Cert.Proof

end
-- ==== Proof.lean ====
/-
  The certificate: the frames of the kernel, its idealisation and the reference, the idealisation's faithfulness, and the
  equality of the three results of the kernel and the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Equation
public import proofs.«01_k».proof.Proof.Gen.KernelIdeal.Value
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The claim of the certificate. -/
theorem claim : Cert.Claim := ⟨Cert.Kernel.Gen.facts, Cert.KernelIdeal.Gen.facts, Cert.ReferenceIdeal.Gen.facts,
  Cert.Pre_finite.Gen.facts, fun m ρ _ => Cert.Kernel.Gen.frame m ρ, fun m ρ _ => Cert.KernelIdeal.Gen.frame m ρ,
  fun m ρ _ => Cert.KernelIdeal.Gen.frame m ρ, fun m ρ _ => Ref.frame m ρ, fun m ρ _ => Ref.frame m ρ, trivial,
  equal_results⟩

end Cert.Proof

end
